-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.blockN ⟨4, ![2, 256, 256, 128]⟩ ⟨4, ![2, 512, 512, 128]⟩ (Layout.meshBlock [2, 2] ![[], [0], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.blockN ⟨4, ![2, 256, 256, 128]⟩ ⟨4, ![2, 512, 512, 128]⟩ (Layout.meshBlock [2, 2] ![[], [0], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v90) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S2x256x256x128 : Shape := ⟨4, ![2, 256, 256, 128]⟩
abbrev S3x3x128 : Shape := ⟨3, ![3, 3, 128]⟩
abbrev S128x128 : Shape := ⟨2, ![128, 128]⟩
abbrev S_ : Shape := ⟨0, ![]⟩

class Facts : Prop where
  bcast_S_S2x256x256x128 : S_.BroadcastsInDim S2x256x256x128 (![] : Fin 0 → Fin S2x256x256x128.rank)
  reducesTo_S2x256x256x128_S_d0_1_2_3 : S2x256x256x128.ReducesTo [0, 1, 2, 3] S_
  h_S_ : 0 < S_.numel

variable [Facts]

def fn {F : FTy → Type} [FloatOps F] (main_arg0 : FVec F S2x256x256x128 .f32) (main_arg1 : FVec F S3x3x128 .f32) (main_arg2 : FVec F S128x128 .f32) : IVec S_ 1 :=
  let main_v0 : FVec F S2x256x256x128 .f32 := Host.absf main_arg0
  let main_cst : FVec F S_ .f32 := constant S_ .f32 0x7F800000#32
  let main_v1 : FVec F S2x256x256x128 .f32 := broadcastInDim S2x256x256x128 ![] bcast_S_S2x256x256x128 main_cst
  let main_v2 : IVec S2x256x256x128 1 := cmpf .olt main_v0 main_v1
  let main_c : IVec S_ 1 := constantI S_ 1 1#1
  let main_v3 : IVec S_ 1 := (fun x v => Host.reduce IntOp.andi x v reducesTo_S2x256x256x128_S_d0_1_2_3 h_S_) main_v2 main_c
  main_v3
-- ==== Pre_finite_x_ReferenceIdeal.lean ====
abbrev S2x512x512x128 : Shape := ⟨4, ![2, 512, 512, 128]⟩
abbrev S3x3x128 : Shape := ⟨3, ![3, 3, 128]⟩
abbrev S128x128 : Shape := ⟨2, ![128, 128]⟩
abbrev S_ : Shape := ⟨0, ![]⟩

class Facts : Prop where
  bcast_S_S2x512x512x128 : S_.BroadcastsInDim S2x512x512x128 (![] : Fin 0 → Fin S2x512x512x128.rank)
  reducesTo_S2x512x512x128_S_d0_1_2_3 : S2x512x512x128.ReducesTo [0, 1, 2, 3] S_
  h_S_ : 0 < S_.numel

variable [Facts]

def fn {F : FTy → Type} [FloatOps F] (main_arg0 : FVec F S2x512x512x128 .f32) (main_arg1 : FVec F S3x3x128 .f32) (main_arg2 : FVec F S128x128 .f32) : IVec S_ 1 :=
  let main_v0 : FVec F S2x512x512x128 .f32 := Host.absf main_arg0
  let main_cst : FVec F S_ .f32 := constant S_ .f32 0x7F800000#32
  let main_v1 : FVec F S2x512x512x128 .f32 := broadcastInDim S2x512x512x128 ![] bcast_S_S2x512x512x128 main_cst
  let main_v2 : IVec S2x512x512x128 1 := cmpf .olt main_v0 main_v1
  let main_c : IVec S_ 1 := constantI S_ 1 1#1
  let main_v3 : IVec S_ 1 := (fun x v => Host.reduce IntOp.andi x v reducesTo_S2x512x512x128_S_d0_1_2_3 h_S_) main_v2 main_c
  main_v3
-- ==== Kernel.lean ====
abbrev S2x256x256x128 : Shape := ⟨4, ![2, 256, 256, 128]⟩
abbrev S3x3x128 : Shape := ⟨3, ![3, 3, 128]⟩
abbrev S128x128 : Shape := ⟨2, ![128, 128]⟩
abbrev S16 : Shape := ⟨1, ![16]⟩
abbrev S_ : Shape := ⟨0, ![]⟩
abbrev S16x1 : Shape := ⟨2, ![16, 1]⟩
abbrev S2x16x256x128 : Shape := ⟨4, ![2, 16, 256, 128]⟩
abbrev S16x2x256x128 : Shape := ⟨4, ![16, 2, 256, 128]⟩
abbrev S1x2x256x128 : Shape := ⟨4, ![1, 2, 256, 128]⟩
abbrev S2x256x1x128 : Shape := ⟨4, ![2, 256, 1, 128]⟩
abbrev S2x1x258x128 : Shape := ⟨4, ![2, 1, 258, 128]⟩
abbrev S2x1x256x128 : Shape := ⟨4, ![2, 1, 256, 128]⟩
abbrev S2x2x128 : Shape := ⟨3, ![2, 2, 128]⟩
abbrev S2 : Shape := ⟨1, ![2]⟩
abbrev S2x128 : Shape := ⟨2, ![2, 128]⟩
abbrev S1x2x128 : Shape := ⟨3, ![1, 2, 128]⟩
abbrev S2x16x1x128 : Shape := ⟨4, ![2, 16, 1, 128]⟩
abbrev S1 : Shape := ⟨1, ![1]⟩
abbrev S2x1x1x128 : Shape := ⟨4, ![2, 1, 1, 128]⟩
abbrev S2x16x258x128 : Shape := ⟨4, ![2, 16, 258, 128]⟩
abbrev S2x256x128 : Shape := ⟨3, ![2, 256, 128]⟩
abbrev S2x1x128 : Shape := ⟨3, ![2, 1, 128]⟩
abbrev S2x258x128 : Shape := ⟨3, ![2, 258, 128]⟩
abbrev S2x18x258x128 : Shape := ⟨4, ![2, 18, 258, 128]⟩
abbrev S1x1x128 : Shape := ⟨3, ![1, 1, 128]⟩
abbrev S128 : Shape := ⟨1, ![128]⟩
abbrev S1x1x1x128 : Shape := ⟨4, ![1, 1, 1, 128]⟩
abbrev S8192x128 : Shape := ⟨2, ![8192, 128]⟩

abbrev nBuf : Space → Nat
  | .hbm => 15
  | .vmem => 20
  | .smem => 0
  | _ => 0

abbrev bufTy : (tb : Table) → Fin (tcTables nBuf tb) → BufTy
  | .hbm, ⟨0, _⟩ => ⟨S2x256x256x128, .f32⟩
  | .hbm, ⟨1, _⟩ => ⟨S3x3x128, .f32⟩
  | .hbm, ⟨2, _⟩ => ⟨S128x128, .f32⟩
  | .hbm, ⟨3, _⟩ => ⟨S16, .i32⟩
  | .hbm, ⟨4, _⟩ => ⟨S_, .i32⟩
  | .hbm, ⟨5, _⟩ => ⟨S16, .i32⟩
  | .hbm, ⟨6, _⟩ => ⟨S16, .i1⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .i32⟩
  | .hbm, ⟨11, _⟩ => ⟨S16x1, .i32⟩
  | .hbm, ⟨12, _⟩ => ⟨S2x16x256x128, .f32⟩
  | .hbm, ⟨13, _⟩ => ⟨S16x2x256x128, .f32⟩
  | .hbm, ⟨14, _⟩ => ⟨S2x256x256x128, .f32⟩
  | .local _ .vmem, ⟨0, _⟩ => ⟨S2x16x256x128, .f32⟩
  | .local _ .vmem, ⟨1, _⟩ => ⟨S2x16x256x128, .f32⟩
  | .local _ .vmem, ⟨2, _⟩ => ⟨S3x3x128, .f32⟩
  | .local _ .vmem, ⟨3, _⟩ => ⟨S128x128, .f32⟩
  | .local _ .vmem, ⟨4, _⟩ => ⟨S1x2x256x128, .f32⟩
  | .local _ .vmem, ⟨5, _⟩ => ⟨S1x2x256x128, .f32⟩
  | .local _ .vmem, ⟨6, _⟩ => ⟨S2x16x256x128, .f32⟩
  | .local _ .vmem, ⟨7, _⟩ => ⟨S2x16x256x128, .f32⟩
  | .local _ .vmem, ⟨8, _⟩ => ⟨S2x256x1x128, .f32⟩
  | .local _ .vmem, ⟨9, _⟩ => ⟨S2x1x258x128, .f32⟩
  | .local _ .vmem, ⟨10, _⟩ => ⟨S2x256x1x128, .f32⟩
  | .local _ .vmem, ⟨11, _⟩ => ⟨S2x1x256x128, .f32⟩
  | .local _ .vmem, ⟨12, _⟩ => ⟨S2x1x258x128, .f32⟩
  | .local _ .vmem, ⟨13, _⟩ => ⟨S2x2x128, .f32⟩
  | .local _ .vmem, ⟨14, _⟩ => ⟨S2x2x128, .f32⟩
  | .local _ .vmem, ⟨15, _⟩ => ⟨S2x2x128, .f32⟩
  | .local _ .vmem, ⟨16, _⟩ => ⟨S2x2x128, .f32⟩
  | .local _ .vmem, ⟨17, _⟩ => ⟨S2x2x128, .f32⟩
  | .local _ .vmem, ⟨18, _⟩ => ⟨S2x2x128, .f32⟩
  | .local _ .vmem, ⟨19, _⟩ => ⟨S2x1x258x128, .f32⟩
  | _, _ => ⟨S2x256x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_scratch11 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev barrier0 : Sem sig := 0

abbrev nD : Nat := 4
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_6 : BitVec 32 := 0#32
  let v10 : BitVec 1 := Scalar.cmpi .eq arg0 c0_i32_6
  let v11 : BitVec 32 := Scalar.extui v10
  let c0_i32_7 : BitVec 32 := 0#32
  let v12 : BitVec 1 := Scalar.cmpi .ne v11 c0_i32_7
  v12

def k0_dev1 (d0 : Dev nD) : Nat :=
  let c0_i32_17 : BitVec 32 := 0#32
  let c1_i32_14 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v26 : BitVec 32 := Scalar.subi c1_i32_14 v2
  let c2_i32_16 : BitVec 32 := 2#32
  let v27 : BitVec 32 := Scalar.muli v26 c2_i32_16
  let v28 : BitVec 32 := Scalar.addi c0_i32_17 v27
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_18 : BitVec 32 := 1#32
  let v29 : BitVec 32 := Scalar.muli v5 c1_i32_18
  let v30 : BitVec 32 := Scalar.addi v28 v29
  v30.toNat
def k0_dev2 (d0 : Dev nD) : Nat :=
  let c0_i32_22 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_21 : BitVec 32 := 2#32
  let v32 : BitVec 32 := Scalar.muli v2 c2_i32_21
  let v33 : BitVec 32 := Scalar.addi c0_i32_22 v32
  let c1_i32_19 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v31 : BitVec 32 := Scalar.subi c1_i32_19 v5
  let c1_i32_23 : BitVec 32 := 1#32
  let v34 : BitVec 32 := Scalar.muli v31 c1_i32_23
  let v35 : BitVec 32 := Scalar.addi v33 v34
  v35.toNat
def k0_cond2 (i : grid0.Coords) : BitVec 1 :=
  let arg0 : BitVec 32 := BitVec.ofNat 32 (i 0).val
  let c16_i32 : BitVec 32 := 16#32
  let v13 : BitVec 1 := Scalar.cmpi .slt arg0 c16_i32
  let v14 : BitVec 32 := Scalar.extui v13
  let c0_i32_8 : BitVec 32 := 0#32
  let v15 : BitVec 1 := Scalar.cmpi .ne v14 c0_i32_8
  v15

def k0_off1 (d0 : Dev nD) : Fin 4 → Nat :=
  let c0_24 : Index := 0#32
  let c0_25 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v6 : BitVec 1 := Scalar.cmpi .eq v5 c0_i32
  let c255_i32 : BitVec 32 := 255#32
  let c0_i32_2 : BitVec 32 := 0#32
  let v7 : BitVec 32 := Scalar.select v6 c255_i32 c0_i32_2
  let v38 : Index := Scalar.indexCast v7
  let c0_26 : Index := 0#32
  ![0, 0, v38.toNat, 0]
def k0_off2 (i : grid0.Coords) : Fin 4 → Nat :=
  let c0_28 : Index := 0#32
  let arg0 : BitVec 32 := BitVec.ofNat 32 (i 0).val
  let c16_i32_27 : BitVec 32 := 16#32
  let v41 : BitVec 32 := Scalar.muli arg0 c16_i32_27
  let v42 : Index := Scalar.indexCast v41
  let c0_29 : Index := 0#32
  let c0_30 : Index := 0#32
  ![0, v42.toNat, 0, 0]
def k0_cond3 (i : grid0.Coords) (d0 : Dev nD) : BitVec 1 :=
  let arg0 : BitVec 32 := BitVec.ofNat 32 (i 0).val
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_31 : BitVec 32 := 0#32
  let v46 : BitVec 1 := Scalar.cmpi .eq v2 c0_i32_31
  let c15_i32_32 : BitVec 32 := 15#32
  let c0_i32_33 : BitVec 32 := 0#32
  let v47 : BitVec 32 := Scalar.select v46 c15_i32_32 c0_i32_33
  let v48 : BitVec 1 := Scalar.cmpi .eq arg0 v47
  let v49 : BitVec 32 := Scalar.extui v48
  let c0_i32_34 : BitVec 32 := 0#32
  let v50 : BitVec 1 := Scalar.cmpi .ne v49 c0_i32_34
  v50

def k0_off3 (d0 : Dev nD) : Fin 4 → Nat :=
  let c0_38 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_35 : BitVec 32 := 0#32
  let v51 : BitVec 1 := Scalar.cmpi .eq v2 c0_i32_35
  let c15_i32_36 : BitVec 32 := 15#32
  let c0_i32_37 : BitVec 32 := 0#32
  let v52 : BitVec 32 := Scalar.select v51 c15_i32_36 c0_i32_37
  let v53 : Index := Scalar.indexCast v52
  let c0_39 : Index := 0#32
  let c0_40 : Index := 0#32
  ![0, v53.toNat, 0, 0]
def k0_cond4 (i : grid0.Coords) : BitVec 1 :=
  let arg0 : BitVec 32 := BitVec.ofNat 32 (i 0).val
  let c15_i32 : BitVec 32 := 15#32
  let v16 : BitVec 1 := Scalar.cmpi .eq arg0 c15_i32
  let v17 : BitVec 32 := Scalar.extui v16
  let c0_i32_9 : BitVec 32 := 0#32
  let v18 : BitVec 1 := Scalar.cmpi .ne v17 c0_i32_9
  v18

def k0_dev3 (d0 : Dev nD) : Nat :=
  let c0_i32_18 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_17 : BitVec 32 := 2#32
  let v26 : BitVec 32 := Scalar.muli v2 c2_i32_17
  let v27 : BitVec 32 := Scalar.addi c0_i32_18 v26
  let c1_i32_14 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v25 : BitVec 32 := Scalar.subi c1_i32_14 v5
  let c1_i32_19 : BitVec 32 := 1#32
  let v28 : BitVec 32 := Scalar.muli v25 c1_i32_19
  let v29 : BitVec 32 := Scalar.addi v27 v28
  v29.toNat
def k0_dev4 (d0 : Dev nD) : Nat :=
  let c0_i32_29 : BitVec 32 := 0#32
  let c1_i32_25 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v38 : BitVec 32 := Scalar.subi c1_i32_25 v2
  let c2_i32_28 : BitVec 32 := 2#32
  let v39 : BitVec 32 := Scalar.muli v38 c2_i32_28
  let v40 : BitVec 32 := Scalar.addi c0_i32_29 v39
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_30 : BitVec 32 := 1#32
  let v41 : BitVec 32 := Scalar.muli v5 c1_i32_30
  let v42 : BitVec 32 := Scalar.addi v40 v41
  v42.toNat
def k0_dev5 (d0 : Dev nD) : Nat :=
  let c0_i32_52 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_51 : BitVec 32 := 2#32
  let v62 : BitVec 32 := Scalar.muli v2 c2_i32_51
  let v63 : BitVec 32 := Scalar.addi c0_i32_52 v62
  let c1_i32_48 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v61 : BitVec 32 := Scalar.subi c1_i32_48 v5
  let c1_i32_53 : BitVec 32 := 1#32
  let v64 : BitVec 32 := Scalar.muli v61 c1_i32_53
  let v65 : BitVec 32 := Scalar.addi v63 v64
  v65.toNat
def k0_off4 (d0 : Dev nD) : Fin 4 → Nat :=
  let c0_86 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_3 : BitVec 32 := 0#32
  let v8 : BitVec 1 := Scalar.cmpi .eq v2 c0_i32_3
  let c255_i32_4 : BitVec 32 := 255#32
  let c0_i32_5 : BitVec 32 := 0#32
  let v9 : BitVec 32 := Scalar.select v8 c255_i32_4 c0_i32_5
  let v110 : Index := Scalar.indexCast v9
  let c0_87 : Index := 0#32
  let c0_88 : Index := 0#32
  ![0, v110.toNat, 0, 0]
def k0_dev6 (d0 : Dev nD) : Nat :=
  let c0_i32_99 : BitVec 32 := 0#32
  let c1_i32_95 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v122 : BitVec 32 := Scalar.subi c1_i32_95 v2
  let c2_i32_98 : BitVec 32 := 2#32
  let v123 : BitVec 32 := Scalar.muli v122 c2_i32_98
  let v124 : BitVec 32 := Scalar.addi c0_i32_99 v123
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_100 : BitVec 32 := 1#32
  let v125 : BitVec 32 := Scalar.muli v5 c1_i32_100
  let v126 : BitVec 32 := Scalar.addi v124 v125
  v126.toNat
def k0_cond6 (i : grid0.Coords) : BitVec 1 :=
  let arg0 : BitVec 32 := BitVec.ofNat 32 (i 0).val
  let c16_i32_12 : BitVec 32 := 16#32
  let v22 : BitVec 1 := Scalar.cmpi .sge arg0 c16_i32_12
  let v23 : BitVec 32 := Scalar.extui v22
  let c0_i32_13 : BitVec 32 := 0#32
  let v24 : BitVec 1 := Scalar.cmpi .ne v23 c0_i32_13
  v24

def k0_off5 (i : grid0.Coords) : Fin 4 → Nat :=
  let c0_22 : Index := 0#32
  let arg0 : BitVec 32 := BitVec.ofNat 32 (i 0).val
  let c16_i32_14 : BitVec 32 := 16#32
  let v25 : BitVec 32 := Scalar.subi arg0 c16_i32_14
  let c16_i32_21 : BitVec 32 := 16#32
  let v35 : BitVec 32 := Scalar.muli v25 c16_i32_21
  let v36 : Index := Scalar.indexCast v35
  let c0_23 : Index := 0#32
  let c0_24 : Index := 0#32
  ![0, v36.toNat, 0, 0]
def k0_off6 (i : grid0.Coords) : Fin 4 → Nat :=
  let c0_50 : Index := 0#32
  let arg0 : BitVec 32 := BitVec.ofNat 32 (i 0).val
  let c16_i32_14 : BitVec 32 := 16#32
  let v25 : BitVec 32 := Scalar.subi arg0 c16_i32_14
  let c1_i32_43 : BitVec 32 := 1#32
  let v74 : BitVec 32 := Scalar.addi v25 c1_i32_43
  let c16_i32_44 : BitVec 32 := 16#32
  let v75 : BitVec 32 := Scalar.muli v74 c16_i32_44
  let c255_i32_45 : BitVec 32 := 255#32
  let v76 : BitVec 32 := Scalar.minsi v75 c255_i32_45
  let v79 : Index := Scalar.indexCast v76
  let c0_51 : Index := 0#32
  let c0_52 : Index := 0#32
  ![0, v79.toNat, 0, 0]
def k0_off7 (i : grid0.Coords) : Fin 4 → Nat :=
  let c0_74 : Index := 0#32
  let arg0 : BitVec 32 := BitVec.ofNat 32 (i 0).val
  let c16_i32_14 : BitVec 32 := 16#32
  let v25 : BitVec 32 := Scalar.subi arg0 c16_i32_14
  let c16_i32_71 : BitVec 32 := 16#32
  let v181 : BitVec 32 := Scalar.muli v25 c16_i32_71
  let c16_i32_72 : BitVec 32 := 16#32
  let v182 : BitVec 32 := Scalar.addi v181 c16_i32_72
  let c1_i32_73 : BitVec 32 := 1#32
  let v183 : BitVec 32 := Scalar.subi v182 c1_i32_73
  let v184 : Index := Scalar.indexCast v183
  let c0_75 : Index := 0#32
  let c0_76 : Index := 0#32
  ![0, v184.toNat, 0, 0]
def cc0_transform_0 (i : grid0.Coords) : Fin 4 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let v2 : BitVec 32 := Scalar.select v0 arg0 v1
  let c0_i32 : BitVec 32 := 0#32
  let c0_i32_1 : BitVec 32 := 0#32
  let c0_i32_2 : BitVec 32 := 0#32
  let c0_i32_3 : BitVec 32 := 0#32
  ![c0_i32.toNat, v2.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_4 (i : grid0.Coords) : Fin 4 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

abbrev stage0_0 : Fin 2 → Memref sig .tc .vmem S2x16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x16x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x512x512x128 : Shape := ⟨4, ![2, 512, 512, 128]⟩
abbrev S3x3x128 : Shape := ⟨3, ![3, 3, 128]⟩
abbrev S128x128 : Shape := ⟨2, ![128, 128]⟩
abbrev S_ : Shape := ⟨0, ![]⟩
abbrev S2x128 : Shape := ⟨2, ![2, 128]⟩
abbrev S2x1x1x128 : Shape := ⟨4, ![2, 1, 1, 128]⟩
abbrev S2x1x512x128 : Shape := ⟨4, ![2, 1, 512, 128]⟩
abbrev S2x514x512x128 : Shape := ⟨4, ![2, 514, 512, 128]⟩
abbrev S2x514x1x128 : Shape := ⟨4, ![2, 514, 1, 128]⟩
abbrev S2x514x514x128 : Shape := ⟨4, ![2, 514, 514, 128]⟩
abbrev S1x1x128 : Shape := ⟨3, ![1, 1, 128]⟩
abbrev S128 : Shape := ⟨1, ![128]⟩
abbrev S1x1x1x128 : Shape := ⟨4, ![1, 1, 1, 128]⟩
abbrev S524288x128 : Shape := ⟨2, ![524288, 128]⟩

abbrev nBuf : Space → Nat
  | .hbm => 122
  | .vmem => 0
  | .smem => 0
  | _ => 0

abbrev bufTy : (tb : Table) → Fin (tcTables nBuf tb) → BufTy
  | .hbm, ⟨0, _⟩ => ⟨S2x512x512x128, .f32⟩
  | .hbm, ⟨1, _⟩ => ⟨S3x3x128, .f32⟩
  | .hbm, ⟨2, _⟩ => ⟨S128x128, .f32⟩
  | .hbm, ⟨3, _⟩ => ⟨S_, .f32⟩
  | .hbm, ⟨4, _⟩ => ⟨S2x128, .f32⟩
  | .hbm, ⟨5, _⟩ => ⟨S2x1x1x128, .f32⟩
  | .hbm, ⟨6, _⟩ => ⟨S_, .f32⟩
  | .hbm, ⟨7, _⟩ => ⟨S2x1x1x128, .f32⟩
  | .hbm, ⟨8, _⟩ => ⟨S2x1x1x128, .f32⟩
  | .hbm, ⟨9, _⟩ => ⟨S_, .i32⟩
  | .hbm, ⟨10, _⟩ => ⟨S_, .f32⟩
  | .hbm, ⟨11, _⟩ => ⟨S2x128, .f32⟩
  | .hbm, ⟨12, _⟩ => ⟨S2x1x1x128, .f32⟩
  | .hbm, ⟨13, _⟩ => ⟨S_, .f32⟩
  | .hbm, ⟨14, _⟩ => ⟨S2x1x1x128, .f32⟩
  | .hbm, ⟨15, _⟩ => ⟨S2x1x1x128, .f32⟩
  | .hbm, ⟨16, _⟩ => ⟨S2x512x512x128, .f32⟩
  | .hbm, ⟨17, _⟩ => ⟨S2x512x512x128, .f32⟩
  | .hbm, ⟨18, _⟩ => ⟨S2x512x512x128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x128, .f32⟩
  | .hbm, ⟨24, _⟩ => ⟨S2x1x1x128, .f32⟩
  | .hbm, ⟨25, _⟩ => ⟨S2x1x1x128, .f32⟩
  | .hbm, ⟨26, _⟩ => ⟨S2x1x1x128, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S2x1x1x128, .f32⟩
  | .hbm, ⟨32, _⟩ => ⟨S2x1x1x128, .f32⟩
  | .hbm, ⟨33, _⟩ => ⟨S2x512x512x128, .f32⟩
  | .hbm, ⟨34, _⟩ => ⟨S2x512x512x128, .f32⟩
  | .hbm, ⟨35, _⟩ => ⟨S_, .f32⟩
  | .hbm, ⟨36, _⟩ => ⟨S2x1x1x128, .f32⟩
  | .hbm, ⟨37, _⟩ => ⟨S2x1x1x128, .f32⟩
  | .hbm, ⟨38, _⟩ => ⟨S2x1x1x128, .f32⟩
  | .hbm, ⟨39, _⟩ => ⟨S2x512x512x128, .f32⟩
  | .hbm, ⟨40, _⟩ => ⟨S2x512x512x128, .f32⟩
  | .hbm, ⟨41, _⟩ => ⟨S2x1x512x128, .f32⟩
  | .hbm, ⟨42, _⟩ => ⟨S2x1x512x128, .f32⟩
  | .hbm, ⟨43, _⟩ => ⟨S2x514x512x128, .f32⟩
  | .hbm, ⟨44, _⟩ => ⟨S2x514x1x128, .f32⟩
  | .hbm, ⟨45, _⟩ => ⟨S2x514x1x128, .f32⟩
  | .hbm, ⟨46, _⟩ => ⟨S2x514x514x128, .f32⟩
  | .hbm, ⟨47, _⟩ => ⟨S_, .f32⟩
  | .hbm, ⟨48, _⟩ => ⟨S2x512x512x128, .f32⟩
  | .hbm, ⟨49, _⟩ => ⟨S2x512x512x128, .f32⟩
  | .hbm, ⟨50, _⟩ => ⟨S1x1x128, .f32⟩
  | .hbm, ⟨51, _⟩ => ⟨S128, .f32⟩
  | .hbm, ⟨52, _⟩ => ⟨S1x1x1x128, .f32⟩
  | .hbm, ⟨53, _⟩ => ⟨S2x512x512x128, .f32⟩
  | .hbm, ⟨54, _⟩ => ⟨S2x512x512x128, .f32⟩
  | .hbm, ⟨55, _⟩ => ⟨S2x512x512x128, .f32⟩
  | .hbm, ⟨56, _⟩ => ⟨S2x512x512x128, .f32⟩
  | .hbm, ⟨57, _⟩ => ⟨S1x1x128, .f32⟩
  | .hbm, ⟨58, _⟩ => ⟨S128, .f32⟩
  | .hbm, ⟨59, _⟩ => ⟨S1x1x1x128, .f32⟩
  | .hbm, ⟨60, _⟩ => ⟨S2x512x512x128, .f32⟩
  | .hbm, ⟨61, _⟩ => ⟨S2x512x512x128, .f32⟩
  | .hbm, ⟨62, _⟩ => ⟨S2x512x512x128, .f32⟩
  | .hbm, ⟨63, _⟩ => ⟨S2x512x512x128, .f32⟩
  | .hbm, ⟨64, _⟩ => ⟨S1x1x128, .f32⟩
  | .hbm, ⟨65, _⟩ => ⟨S128, .f32⟩
  | .hbm, ⟨66, _⟩ => ⟨S1x1x1x128, .f32⟩
  | .hbm, ⟨67, _⟩ => ⟨S2x512x512x128, .f32⟩
  | .hbm, ⟨68, _⟩ => ⟨S2x512x512x128, .f32⟩
  | .hbm, ⟨69, _⟩ => ⟨S2x512x512x128, .f32⟩
  | .hbm, ⟨70, _⟩ => ⟨S2x512x512x128, .f32⟩
  | .hbm, ⟨71, _⟩ => ⟨S1x1x128, .f32⟩
  | .hbm, ⟨72, _⟩ => ⟨S128, .f32⟩
  | .hbm, ⟨73, _⟩ => ⟨S1x1x1x128, .f32⟩
  | .hbm, ⟨74, _⟩ => ⟨S2x512x512x128, .f32⟩
  | .hbm, ⟨75, _⟩ => ⟨S2x512x512x128, .f32⟩
  | .hbm, ⟨76, _⟩ => ⟨S2x512x512x128, .f32⟩
  | .hbm, ⟨77, _⟩ => ⟨S2x512x512x128, .f32⟩
  | .hbm, ⟨78, _⟩ => ⟨S1x1x128, .f32⟩
  | .hbm, ⟨79, _⟩ => ⟨S128, .f32⟩
  | .hbm, ⟨80, _⟩ => ⟨S1x1x1x128, .f32⟩
  | .hbm, ⟨81, _⟩ => ⟨S2x512x512x128, .f32⟩
  | .hbm, ⟨82, _⟩ => ⟨S2x512x512x128, .f32⟩
  | .hbm, ⟨83, _⟩ => ⟨S2x512x512x128, .f32⟩
  | .hbm, ⟨84, _⟩ => ⟨S2x512x512x128, .f32⟩
  | .hbm, ⟨85, _⟩ => ⟨S1x1x128, .f32⟩
  | .hbm, ⟨86, _⟩ => ⟨S128, .f32⟩
  | .hbm, ⟨87, _⟩ => ⟨S1x1x1x128, .f32⟩
  | .hbm, ⟨88, _⟩ => ⟨S2x512x512x128, .f32⟩
  | .hbm, ⟨89, _⟩ => ⟨S2x512x512x128, .f32⟩
  | .hbm, ⟨90, _⟩ => ⟨S2x512x512x128, .f32⟩
  | .hbm, ⟨91, _⟩ => ⟨S2x512x512x128, .f32⟩
  | .hbm, ⟨92, _⟩ => ⟨S1x1x128, .f32⟩
  | .hbm, ⟨93, _⟩ => ⟨S128, .f32⟩
  | .hbm, ⟨94, _⟩ => ⟨S1x1x1x128, .f32⟩
  | .hbm, ⟨95, _⟩ => ⟨S2x512x512x128, .f32⟩
  | .hbm, ⟨96, _⟩ => ⟨S2x512x512x128, .f32⟩
  | .hbm, ⟨97, _⟩ => ⟨S2x512x512x128, .f32⟩
  | .hbm, ⟨98, _⟩ => ⟨S2x512x512x128, .f32⟩
  | .hbm, ⟨99, _⟩ => ⟨S1x1x128, .f32⟩
  | .hbm, ⟨100, _⟩ => ⟨S128, .f32⟩
  | .hbm, ⟨101, _⟩ => ⟨S1x1x1x128, .f32⟩
  | .hbm, ⟨102, _⟩ => ⟨S2x512x512x128, .f32⟩
  | .hbm, ⟨103, _⟩ => ⟨S2x512x512x128, .f32⟩
  | .hbm, ⟨104, _⟩ => ⟨S2x512x512x128, .f32⟩
  | .hbm, ⟨105, _⟩ => ⟨S2x512x512x128, .f32⟩
  | .hbm, ⟨106, _⟩ => ⟨S1x1x128, .f32⟩
  | .hbm, ⟨107, _⟩ => ⟨S128, .f32⟩
  | .hbm, ⟨108, _⟩ => ⟨S1x1x1x128, .f32⟩
  | .hbm, ⟨109, _⟩ => ⟨S2x512x512x128, .f32⟩
  | .hbm, ⟨110, _⟩ => ⟨S2x512x512x128, .f32⟩
  | .hbm, ⟨111, _⟩ => ⟨S2x512x512x128, .f32⟩
  | .hbm, ⟨112, _⟩ => ⟨S2x512x512x128, .f32⟩
  | .hbm, ⟨113, _⟩ => ⟨S2x512x512x128, .f32⟩
  | .hbm, ⟨114, _⟩ => ⟨S_, .f32⟩
  | .hbm, ⟨115, _⟩ => ⟨S2x512x512x128, .f32⟩
  | .hbm, ⟨116, _⟩ => ⟨S2x512x512x128, .f32⟩
  | .hbm, ⟨117, _⟩ => ⟨S2x512x512x128, .f32⟩
  | .hbm, ⟨118, _⟩ => ⟨S524288x128, .f32⟩
  | .hbm, ⟨119, _⟩ => ⟨S524288x128, .f32⟩
  | .hbm, ⟨120, _⟩ => ⟨S2x512x512x128, .f32⟩
  | .hbm, ⟨121, _⟩ => ⟨S2x512x512x128, .f32⟩
  | _, _ => ⟨S2x512x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_3 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩

abbrev nD : Nat := 1
abbrev τ : Topo := Topo.v7x

variable {F : FTy → Type} [FloatOps F]
-- ==== Proof.Phases.lean ====
/-
  The kernel's body at a grid point, as five phases: the barrier (point 0), the accumulation of the sums and of the edge
  columns and rows (points 0 to 15), the exchange (point 15), the wait for the peer's edge row (point 16), the normalisation
  and convolution of a row block (points 16 to 31). At each point the body is the phases whose conditions hold.
-/
module

public import proofs.«01_k».proof.Proof.Gen.KernelIdeal.Skeleton
public import proofs.«01_k».proof.Proof.Gen.KernelIdeal.Points

@[expose] public section

noncomputable section

namespace Cert.KernelIdeal.Run

open Idealize.ShloMosaic Idealize.ShloMosaic.TcCoe Idealize.SL.Sem
open Cert.KernelIdeal Cert.KernelIdeal.Gen

variable {F : FTy → Type} [FloatOps F]

/-! ## The scratch memrefs and the semaphores -/

abbrev colM : Memref sig .tc .vmem S2x256x1x128 .f32 := Memref.whole cc0_scratch0
abbrev rowM : Memref sig .tc .vmem S2x1x258x128 .f32 := Memref.whole cc0_scratch1
abbrev scolM : Memref sig .tc .vmem S2x256x1x128 .f32 := Memref.whole cc0_scratch2
abbrev srowM : Memref sig .tc .vmem S2x1x256x128 .f32 := Memref.whole cc0_scratch3
abbrev extM : Memref sig .tc .vmem S2x1x258x128 .f32 := Memref.whole cc0_scratch4
abbrev accM : Memref sig .tc .vmem S2x2x128 .f32 := Memref.whole cc0_scratch5
abbrev sbM : Memref sig .tc .vmem S2x2x128 .f32 := Memref.whole cc0_scratch6
abbrev rxM : Memref sig .tc .vmem S2x2x128 .f32 := Memref.whole cc0_scratch7
abbrev sb2M : Memref sig .tc .vmem S2x2x128 .f32 := Memref.whole cc0_scratch8
abbrev ryM : Memref sig .tc .vmem S2x2x128 .f32 := Memref.whole cc0_scratch9
abbrev statM : Memref sig .tc .vmem S2x2x128 .f32 := Memref.whole cc0_scratch10
abbrev carM : Memref sig .tc .vmem S2x1x258x128 .f32 := Memref.whole cc0_scratch11

/-- The barrier's semaphore. -/
abbrev barS : Sem sig := barrier0
/-- The eight semaphores of the remote copies: sent and arrived column, row (0, 1; 2, 3), sent and arrived sums along the
    two mesh axes (4, 5; 6, 7). -/
abbrev dsem (k : Fin 8) : DmaSem sig := ⟨8 + k.val, by have := k.isLt; show 8 + k.val < 16; omega⟩

/-- The device's two mesh coordinates, as the words the body computes. -/
abbrev mxW (d : Dev nD) : BitVec 32 := Scalar.remsi (Scalar.divsi (Dev.word d) 2#32) 2#32
abbrev myW (d : Dev nD) : BitVec 32 := Scalar.remsi (Scalar.divsi (Dev.word d) 1#32) 2#32

abbrev P (α : Type) : Type 1 := Prog (TpuEff nD τ sig (Elt F) Λ₀ .tc) α

/-- A load and an unmasked store at a rectangle of a VMEM memref; a remote copy to device `p`; a wait for a copy. -/
abbrev rd {s : Shape} (M : Memref sig .tc .vmem s .f32) (r : Rect s) (h : 0 < r.shape.numel) : P (F := F) (Vec F r.shape .f32) :=
  Prog.lift (.load M r.toLoadRect (View.loadsAt_vmem h))
abbrev wr {s : Shape} (M : Memref sig .tc .vmem s .f32) (r : Rect s) (h : 0 < r.shape.numel) (w : Vec F r.shape .f32) : P (F := F) PUnit :=
  Prog.lift (.store M r w Finset.univ (View.stores_vmem_bits_univ h rfl) (.inl rfl))
abbrev put {s : Shape} (p : Dev nD) (A B : Memref sig .tc .vmem s .f32) (hA : A.IsWhole) (hB : B.IsWhole) (k l : Fin 8) : P (F := F) PUnit :=
  Prog.lift (.enqueueDma A (.remote (Dev.tc p) B (.dma (dsem k))) (.dma (dsem l)) hA.wordExact hB.wordExact ⟨⟨rfl, Or.inl rfl⟩, trivial⟩)
abbrev await {s : Shape} (k : Fin 8) (A B : Memref sig .tc .vmem s .f32) (hA : A.IsWhole) (hB : B.IsWhole) : P (F := F) PUnit :=
  Prog.lift (.waitDma2 (dsem k) A B hA.wordExact hB.wordExact)

/-- The whole of each shape. -/
abbrev allS : Rect S2x2x128 := Rect.unit ![0, 0, 0] S2x2x128.size inb_S2x2x128_S2x2x128_0_0_0
abbrev allR : Rect S2x1x258x128 := Rect.unit ![0, 0, 0, 0] S2x1x258x128.size inb_S2x1x258x128_S2x1x258x128_0_0_0_0
abbrev allQ : Rect S2x1x256x128 := Rect.unit ![0, 0, 0, 0] S2x1x256x128.size inb_S2x1x256x128_S2x1x256x128_0_0_0_0
abbrev allX : Rect S2x16x256x128 := Rect.unit ![0, 0, 0, 0] S2x16x256x128.size inb_S2x16x256x128_S2x16x256x128_0_0_0_0
abbrev allB : Rect S1x2x256x128 := Rect.unit ![0, 0, 0, 0] S1x2x256x128.size inb_S1x2x256x128_S1x2x256x128_0_0_0_0
abbrev allK : Rect S3x3x128 := Rect.unit ![0, 0, 0] S3x3x128.size inb_S3x3x128_S3x3x128_0_0_0
abbrev allW : Rect S128x128 := Rect.unit ![0, 0] S128x128.size inb_S128x128_S128x128_0_0
/-- The edge column and the edge row in a row block; its place among the edge columns; the corner the edge row takes. -/
abbrev edgeC (i : grid0.Coords) (d : Dev nD) (h : k0_cond2 i = 1#1) : Rect S2x16x256x128 := Rect.unit (k0_off1 d) S2x16x1x128.size (k0_off1_inb i d h)
abbrev slotC (i : grid0.Coords) (h : k0_cond2 i = 1#1) : Rect S2x256x1x128 := Rect.unit (k0_off2 i) S2x16x1x128.size (k0_off2_inb i h)
abbrev edgeR (i : grid0.Coords) (d : Dev nD) (h : k0_cond2 i = 1#1) (h3 : k0_cond3 i d = 1#1) : Rect S2x16x256x128 :=
  Rect.unit (k0_off3 d) S2x1x256x128.size (k0_off3_inb i d h h3)
abbrev cornC (i : grid0.Coords) (d : Dev nD) (h : k0_cond4 i = 1#1) : Rect S2x256x1x128 := Rect.unit (k0_off4 d) S2x1x1x128.size (k0_off4_inb i d h)
/-- The peer's edge column beside a row block; above it; below it; at its last row. -/
abbrev besC (i : grid0.Coords) (h : k0_cond6 i = 1#1) : Rect S2x256x1x128 := Rect.unit (k0_off5 i) S2x16x1x128.size (k0_off5_inb i h)
abbrev topC : Rect S2x256x1x128 := Rect.unit ![0, 0, 0, 0] S2x1x1x128.size inb_S2x256x1x128_S2x1x1x128_0_0_0_0
abbrev belC (i : grid0.Coords) (h : k0_cond6 i = 1#1) : Rect S2x256x1x128 := Rect.unit (k0_off6 i) S2x1x1x128.size (k0_off6_inb i h)
abbrev lasC (i : grid0.Coords) (h : k0_cond6 i = 1#1) : Rect S2x256x1x128 := Rect.unit (k0_off7 i) S2x1x1x128.size (k0_off7_inb i h)

/-! ## The phases -/

/-- The barrier with both peers, and the sums at zero. -/
def barrierP (i : grid0.Coords) (d : Dev nD) (h : k0_cond1 i = 1#1) : P (F := F) PUnit := do
  semSignalWord (⟨k0_dev1 d, k0_dev1_lt i d h⟩ : Dev nD) barS 1#32
  semSignalWord (⟨k0_dev2 d, k0_dev2_lt i d h⟩ : Dev nD) barS 1#32
  semWaitWord barS 2#32
  let _ ← rd accM allS h_S2x2x128
  wr accM allS h_S2x2x128 (k0_pay1 (F := F))
  pure ⟨⟩

/-- The edge row, at the point whose block holds it. -/
def rowP (i : grid0.Coords) (d : Dev nD) (h : k0_cond2 i = 1#1) (h3 : k0_cond3 i d = 1#1) (M1 : Memref sig .tc .vmem S2x16x256x128 .f32) :
    P (F := F) PUnit := do
  let e ← rd M1 (edgeR i d h h3) h_S2x1x256x128
  let _ ← rd srowM allQ h_S2x1x256x128
  wr srowM allQ h_S2x1x256x128 (k0_pay4 e)
  pure ⟨⟩

/-- The sums of a row block, its edge column and edge row. -/
def accumP (i : grid0.Coords) (d : Dev nD) (h : k0_cond2 i = 1#1) (M1 : Memref sig .tc .vmem S2x16x256x128 .f32) : P (F := F) PUnit := do
  let x ← rd M1 allX h_S2x16x256x128
  let a ← rd accM allS h_S2x2x128
  let _ ← rd accM allS h_S2x2x128
  wr accM allS h_S2x2x128 (k0_pay2 x a)
  let e ← rd M1 (edgeC i d h) h_S2x16x1x128
  let _ ← rd scolM (slotC i h) h_S2x16x1x128
  wr scolM (slotC i h) h_S2x16x1x128 (k0_pay3 e)
  if h3 : k0_cond3 i d = 1#1 then rowP i d h h3 M1 else pure ⟨⟩

/-- The exchange: the edge column to the one peer, the sums along the two mesh axes, the edge row to the other peer. -/
def exchP (i : grid0.Coords) (d : Dev nD) (h : k0_cond4 i = 1#1) : P (F := F) PUnit := do
  put (⟨k0_dev3 d, k0_dev3_lt i d h⟩ : Dev nD) scolM colM (Memref.isWhole_whole _) (Memref.isWhole_whole _) 0 2
  let a ← rd accM allS h_S2x2x128
  let _ ← rd sbM allS h_S2x2x128
  wr sbM allS h_S2x2x128 (k0_pay7 a)
  put (⟨k0_dev4 d, k0_dev4_lt i d h⟩ : Dev nD) sbM rxM (Memref.isWhole_whole _) (Memref.isWhole_whole _) 4 6
  await 4 rxM sbM (Memref.isWhole_whole _) (Memref.isWhole_whole _)
  await 6 sbM rxM (Memref.isWhole_whole _) (Memref.isWhole_whole _)
  let b ← rd sbM allS h_S2x2x128
  let b' ← rd rxM allS h_S2x2x128
  let _ ← rd sb2M allS h_S2x2x128
  wr sb2M allS h_S2x2x128 (k0_pay8 b b')
  put (⟨k0_dev5 d, k0_dev5_lt i d h⟩ : Dev nD) sb2M ryM (Memref.isWhole_whole _) (Memref.isWhole_whole _) 5 7
  await 5 ryM sb2M (Memref.isWhole_whole _) (Memref.isWhole_whole _)
  await 7 sb2M ryM (Memref.isWhole_whole _) (Memref.isWhole_whole _)
  let s ← rd sb2M allS h_S2x2x128
  let s' ← rd ryM allS h_S2x2x128
  let _ ← rd statM allS h_S2x2x128
  wr statM allS h_S2x2x128 (k0_pay10 (k0_pay9 s s'))
  await 0 colM scolM (Memref.isWhole_whole _) (Memref.isWhole_whole _)
  await 2 scolM colM (Memref.isWhole_whole _) (Memref.isWhole_whole _)
  let r ← rd srowM allQ h_S2x1x256x128
  let e ← rd colM (cornC i d h) h_S2x1x1x128
  let _ ← rd extM allR h_S2x1x258x128
  wr extM allR h_S2x1x258x128 (k0_pay5 d r e (k0_pay11 (myW d) r e))
  put (⟨k0_dev6 d, k0_dev6_lt i d h⟩ : Dev nD) extM rowM (Memref.isWhole_whole _) (Memref.isWhole_whole _) 1 3
  pure ⟨⟩

/-- The wait for the edge rows, the own one sent and the peer's arrived. -/
def rowWaitP : P (F := F) PUnit := do
  await 1 rowM extM (Memref.isWhole_whole _) (Memref.isWhole_whole _)
  await 3 extM rowM (Memref.isWhole_whole _) (Memref.isWhole_whole _)
  pure ⟨⟩

/-- The grid coordinate as the body's word, and less 16. -/
abbrev iW (i : grid0.Coords) : BitVec 32 := BitVec.ofNat 32 (i 0).val
abbrev jW (i : grid0.Coords) : BitVec 32 := Scalar.subi (iW i) 16#32

section Row

variable (i : grid0.Coords) (d : Dev nD) (st : Vec F S2x2x128 .f32) (x : Vec F S2x16x256x128 .f32) (ce : Vec F S2x16x1x128 .f32)
  (ct cb cl : Vec F S2x1x1x128 .f32) (ro ca : Vec F S2x1x258x128 .f32) (bo : Vec F S1x2x256x128 .f32) (kk : Vec F S3x3x128 .f32)
  (wp : Vec F S128x128 .f32)

/-- The normalised row above the block, the row below it, the block itself with its halo columns. -/
abbrev topRow : FVec F S2x258x128 .f32 :=
  k0_pay17 (k0_pay12 st) (k0_pay13 st) (k0_pay16 (myW d) x ct) (Scalar.cmpi .eq (jW i) 0#32) (Scalar.cmpi .eq (mxW d) 1#32) ro ca
abbrev botRow : FVec F S2x258x128 .f32 := k0_pay18 (mxW d) (myW d) (jW i) bo cb ro
abbrev midRows : FVec F S2x16x258x128 .f32 := k0_pay15 (myW d) st x ce

/-- A row block of the result, from what the body reads at its point. -/
def outOf : Vec F S2x16x256x128 .f32 :=
  k0_pay25 (k0_pay14 x)
    (k0_pay20 (k0_pay13 st) (midRows d st x ce) (topRow i d st x ct ro ca) (botRow i d cb ro bo) (k0_pay19 (k0_pay12 st)))
    (k0_pay21 kk)
    (k0_pay22 (k0_pay13 st) (midRows d st x ce) (topRow i d st x ct ro ca) (botRow i d cb ro bo) (k0_pay19 (k0_pay12 st)) kk)
    (k0_pay23 (k0_pay13 st) (midRows d st x ce) (topRow i d st x ct ro ca) (botRow i d cb ro bo) (k0_pay19 (k0_pay12 st)))
    (k0_pay24 kk) wp

/-- The last row of a block with its halo, kept for the next block. -/
def carOf : Vec F S2x1x258x128 .f32 := k0_pay6 (k0_pay26 (myW d) (k0_pay14 x) cl)

end Row

/-- The normalisation and convolution of a row block. -/
def convP (i : grid0.Coords) (d : Dev nD) (h : k0_cond6 i = 1#1) (M1 : Memref sig .tc .vmem S2x16x256x128 .f32) (M2 : Memref sig .tc .vmem S3x3x128 .f32)
    (M3 : Memref sig .tc .vmem S128x128 .f32) (M4 : Memref sig .tc .vmem S1x2x256x128 .f32) (M5 : Memref sig .tc .vmem S2x16x256x128 .f32) :
    P (F := F) PUnit := do
  let st ← rd statM allS h_S2x2x128
  let x ← rd M1 allX h_S2x16x256x128
  let ce ← rd colM (besC i h) h_S2x16x1x128
  let ct ← rd colM topC h_S2x1x1x128
  let ro ← rd rowM allR h_S2x1x258x128
  let ca ← rd carM allR h_S2x1x258x128
  let bo ← rd M4 allB h_S1x2x256x128
  let cb ← rd colM (belC i h) h_S2x1x1x128
  let ro' ← rd rowM allR h_S2x1x258x128
  let kk ← rd M2 allK h_S3x3x128
  let w ← rd M3 allW h_S128x128
  let _ ← rd M5 allX h_S2x16x256x128
  wr M5 allX h_S2x16x256x128
    (k0_pay25 (k0_pay14 x)
      (k0_pay20 (k0_pay13 st) (midRows d st x ce) (topRow i d st x ct ro ca) (botRow i d cb ro' bo) (k0_pay19 (k0_pay12 st)))
      (k0_pay21 kk)
      (k0_pay22 (k0_pay13 st) (midRows d st x ce) (topRow i d st x ct ro ca) (botRow i d cb ro' bo) (k0_pay19 (k0_pay12 st)) kk)
      (k0_pay23 (k0_pay13 st) (midRows d st x ce) (topRow i d st x ct ro ca) (botRow i d cb ro' bo) (k0_pay19 (k0_pay12 st)))
      (k0_pay24 kk) w)
  let cl ← rd colM (lasC i h) h_S2x1x1x128
  let _ ← rd carM allR h_S2x1x258x128
  wr carM allR h_S2x1x258x128 (carOf d x cl)
  pure ⟨⟩

/-! ## The body at a point -/

section Body

variable (i : grid0.Coords) (M1 : Memref sig .tc .vmem S2x16x256x128 .f32) (h1 : M1.IsWhole) (M2 : Memref sig .tc .vmem S3x3x128 .f32) (h2 : M2.IsWhole)
  (M3 : Memref sig .tc .vmem S128x128 .f32) (h3 : M3.IsWhole) (M4 : Memref sig .tc .vmem S1x2x256x128 .f32) (h4 : M4.IsWhole)
  (M5 : Memref sig .tc .vmem S2x16x256x128 .f32) (h5 : M5.IsWhole)

/-- The body over the kernel's scratch. -/
abbrev bodyP : P (F := F) PUnit :=
  cc0_body i M1 h1 M2 h2 M3 h3 M4 h4 M5 h5 colM (Memref.isWhole_whole _) rowM (Memref.isWhole_whole _) scolM (Memref.isWhole_whole _)
    srowM (Memref.isWhole_whole _) extM (Memref.isWhole_whole _) accM (Memref.isWhole_whole _) sbM (Memref.isWhole_whole _)
    rxM (Memref.isWhole_whole _) sb2M (Memref.isWhole_whole _) ryM (Memref.isWhole_whole _) statM (Memref.isWhole_whole _)
    carM (Memref.isWhole_whole _) cc0_scratch12 cc0_scratch13 cc0_scratch14 cc0_scratch15

/-- The test for the point of the row wait. -/
abbrev cond5 : BitVec 1 := Scalar.cmpi .ne (Scalar.extui (Scalar.cmpi .eq (iW i) 16#32) : BitVec 32) 0#32

theorem body_first (c1 : k0_cond1 i = 1#1) (c2 : k0_cond2 i = 1#1) (c4 : ¬ k0_cond4 i = 1#1) (c5 : ¬ cond5 i = 1#1) (c6 : ¬ k0_cond6 i = 1#1) :
    bodyP (F := F) i M1 h1 M2 h2 M3 h3 M4 h4 M5 h5
      = Prog.lift .deviceId >>= fun d => barrierP i d c1 >>= fun _ => accumP i d c2 M1 := by
  unfold bodyP; rw [cc0_body_eq_skeleton]; unfold cc0_body_skel barrierP accumP rowP
  refine congrArg (bind _) (funext fun d => ?_)
  by_cases c3 : k0_cond3 i d = 1#1
  · simp only [dif_pos c1, dif_pos c2, dif_pos c3, dif_neg c4, dif_neg c5, dif_neg c6, bind_assoc, pure_bind, bind_pure_unit]; rfl
  · simp only [dif_pos c1, dif_pos c2, dif_neg c3, dif_neg c4, dif_neg c5, dif_neg c6, bind_assoc, pure_bind, bind_pure_unit]; rfl

theorem body_acc (c1 : ¬ k0_cond1 i = 1#1) (c2 : k0_cond2 i = 1#1) (c4 : ¬ k0_cond4 i = 1#1) (c5 : ¬ cond5 i = 1#1) (c6 : ¬ k0_cond6 i = 1#1) :
    bodyP (F := F) i M1 h1 M2 h2 M3 h3 M4 h4 M5 h5 = Prog.lift .deviceId >>= fun d => accumP i d c2 M1 := by
  unfold bodyP; rw [cc0_body_eq_skeleton]; unfold cc0_body_skel accumP rowP
  refine congrArg (bind _) (funext fun d => ?_)
  by_cases c3 : k0_cond3 i d = 1#1
  · simp only [dif_neg c1, dif_pos c2, dif_pos c3, dif_neg c4, dif_neg c5, dif_neg c6, bind_assoc, pure_bind, bind_pure_unit]; rfl
  · simp only [dif_neg c1, dif_pos c2, dif_neg c3, dif_neg c4, dif_neg c5, dif_neg c6, bind_assoc, pure_bind, bind_pure_unit]; rfl

theorem body_exch (c1 : ¬ k0_cond1 i = 1#1) (c2 : k0_cond2 i = 1#1) (c4 : k0_cond4 i = 1#1) (c5 : ¬ cond5 i = 1#1) (c6 : ¬ k0_cond6 i = 1#1) :
    bodyP (F := F) i M1 h1 M2 h2 M3 h3 M4 h4 M5 h5
      = Prog.lift .deviceId >>= fun d => accumP i d c2 M1 >>= fun _ => exchP i d c4 := by
  unfold bodyP; rw [cc0_body_eq_skeleton]; unfold cc0_body_skel accumP rowP exchP
  rw [k0_part1_eq_skeleton, k0_part2_eq_skeleton, k0_part3_eq_skeleton]
  unfold k0_part1_skel k0_part2_skel k0_part3_skel
  refine congrArg (bind _) (funext fun d => ?_)
  by_cases c3 : k0_cond3 i d = 1#1
  · simp only [dif_neg c1, dif_pos c2, dif_pos c3, dif_pos c4, dif_neg c5, dif_neg c6, bind_assoc, pure_bind, bind_pure_unit]; rfl
  · simp only [dif_neg c1, dif_pos c2, dif_neg c3, dif_pos c4, dif_neg c5, dif_neg c6, bind_assoc, pure_bind, bind_pure_unit]; rfl

theorem body_wait (c1 : ¬ k0_cond1 i = 1#1) (c2 : ¬ k0_cond2 i = 1#1) (c4 : ¬ k0_cond4 i = 1#1) (c5 : cond5 i = 1#1) (c6 : k0_cond6 i = 1#1) :
    bodyP (F := F) i M1 h1 M2 h2 M3 h3 M4 h4 M5 h5
      = Prog.lift .deviceId >>= fun d => rowWaitP >>= fun _ => convP i d c6 M1 M2 M3 M4 M5 := by
  unfold bodyP; rw [cc0_body_eq_skeleton]; unfold cc0_body_skel rowWaitP convP carOf
  rw [k0_part4_eq_skeleton, k0_part5_eq_skeleton, k0_part6_eq_skeleton, k0_part7_eq_skeleton]
  unfold k0_part4_skel k0_part5_skel k0_part6_skel k0_part7_skel
  refine congrArg (bind _) (funext fun d => ?_)
  simp only [dif_neg c1, dif_neg c2, dif_neg c4, dif_pos c5, dif_pos c6, bind_assoc, pure_bind, bind_pure_unit]; rfl

theorem body_conv (c1 : ¬ k0_cond1 i = 1#1) (c2 : ¬ k0_cond2 i = 1#1) (c4 : ¬ k0_cond4 i = 1#1) (c5 : ¬ cond5 i = 1#1) (c6 : k0_cond6 i = 1#1) :
    bodyP (F := F) i M1 h1 M2 h2 M3 h3 M4 h4 M5 h5 = Prog.lift .deviceId >>= fun d => convP i d c6 M1 M2 M3 M4 M5 := by
  unfold bodyP; rw [cc0_body_eq_skeleton]; unfold cc0_body_skel convP carOf
  rw [k0_part4_eq_skeleton, k0_part5_eq_skeleton, k0_part6_eq_skeleton, k0_part7_eq_skeleton]
  unfold k0_part4_skel k0_part5_skel k0_part6_skel k0_part7_skel
  refine congrArg (bind _) (funext fun d => ?_)
  simp only [dif_neg c1, dif_neg c2, dif_neg c4, dif_neg c5, dif_pos c6, bind_assoc, pure_bind, bind_pure_unit]; rfl

end Body

end Cert.KernelIdeal.Run

end
-- ==== Proof.Steps.lean ====
/-
  One memory step at a time, in terms of what a memref READS: a load, a store and a remote copy of memrefs held as
  `owns c M q X`. What a load returns is `X` restricted to the rectangle; what an unmasked store leaves is `X` with the
  rectangle overwritten; a remote copy of a whole memref onto another of the same shape leaves the second reading what the
  first reads.
-/
module

public import Idealize.ShloMosaic.Lib.Pipeline.Regions
public import Idealize.ShloMosaic.Lib.Pipeline.Kit
public import Idealize.ShloMosaic.Lib.Pipeline.TableIdle
public import Idealize.ShloMosaic.Lib.Rounds
public import Idealize.ShloMosaic.Lib.VecWindow
public import Idealize.ShloMosaic.Lib.Tactic

@[expose] public section

noncomputable section

namespace Cert.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Pure: a rectangle read, and overwritten -/

section Pure

variable {s : Shape} {α : Type}

/-- `X` on the rectangle `r`. -/
abbrev cut (r : Rect s) (X : s.Idx → α) : r.shape.Idx → α := fun x => X (r.emb x)

open Classical in
/-- `X` with the rectangle `r` overwritten by `w`. -/
def paste (X : s.Idx → α) (r : Rect s) (w : r.shape.Idx → α) : s.Idx → α :=
  fun y => if h : ∃ x, r.emb x = y then w h.choose else X y

theorem paste_emb (X : s.Idx → α) (r : Rect s) (w : r.shape.Idx → α) (x : r.shape.Idx) : paste X r w (r.emb x) = w x := by
  have h : ∃ z, r.emb z = r.emb x := ⟨x, rfl⟩
  unfold paste; rw [dif_pos h, r.emb.injective h.choose_spec]

theorem paste_not (X : s.Idx → α) (r : Rect s) (w : r.shape.Idx → α) {y : s.Idx} (h : ¬ ∃ x, r.emb x = y) : paste X r w y = X y :=
  dif_neg h

/-- The rectangle of the shape's own sizes at offset zero is the whole shape. -/
theorem cut_zero {off : Fin s.rank → ℕ} (inb : ∀ a, off a + s.size a ≤ s.size a) (X : s.Idx → α) :
    cut (Rect.unit off s.size inb) X = X := by
  funext y
  exact congrArg X (funext fun a => Fin.ext (by show off a + 1 * (y a).val = (y a).val; have := inb a; omega))

theorem paste_zero {off : Fin s.rank → ℕ} (inb : ∀ a, off a + s.size a ≤ s.size a) (X w : s.Idx → α) :
    paste X (Rect.unit off s.size inb) w = w := by
  have h := funext fun y => paste_emb X (Rect.unit off s.size inb) w y
  exact (cut_zero inb _).symm.trans h

end Pure

/-! ## The steps -/

section Wp

variable {nD : Nat} {τ : Topo} {sig : RefSig} {Val : EltTy → Type} [∀ e, Nonempty (Val e)]
variable {Ix : Type} [DecidableEq Ix] {Name : Type} [DecidableEq Name] {U : Type} [URA U] {Lvl : Type} [Preorder Lvl]
variable {Λ : Labels} {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load at a rectangle. -/
theorem load {cs : CoreSpace} {M : Memref sig c.2.kind cs s e} {r : Rect s} {hl : M.view.LoadsAt r.toLoadRect}
    {k : (r.shape.Idx → Val e) → Prog (TpuEff nD τ sig Val Λ c.2) α} {q : PosShare TreeShare} {X : s.Idx → Val e} :
    (owns c M q X : sProp (MT nD τ sig Ix Val Name U Lvl))
      ⊢ iprop((owns c M q X -∗ wp frame (wpE defs 𝒱 c bd) E (k (cut r X)) Q)
        -∗ wp frame (wpE defs 𝒱 c bd) E (.op (.load M r.toLoadRect hl) k) Q) := by
  rw [owns_eq_rep]
  have h := wp_load (Γ := []) (defs := defs) 𝒱 c bd E (Q := Q) (m := M) (r := r.toLoadRect) (hl := hl) (k := k) (q := q) (f := M.view.rep X)
    (View.setOn_subset_set M.view r.toLoadRect.set)
  have e1 : M.view.readAt Val r.toLoadRect (M.view.rep X) = cut r X := by
    funext x; rw [View.readAt_apply, View.read_rep]; rfl
  rwa [e1] at h

/-- A load of the whole memref. -/
theorem load_all {cs : CoreSpace} {M : Memref sig c.2.kind cs s e} {off : Fin s.rank → ℕ} {inb : ∀ a, off a + s.size a ≤ s.size a}
    {hl : M.view.LoadsAt (Rect.unit off s.size inb).toLoadRect}
    {k : (s.Idx → Val e) → Prog (TpuEff nD τ sig Val Λ c.2) α} {q : PosShare TreeShare} {X : s.Idx → Val e} :
    (owns c M q X : sProp (MT nD τ sig Ix Val Name U Lvl))
      ⊢ iprop((owns c M q X -∗ wp frame (wpE defs 𝒱 c bd) E (k X) Q)
        -∗ wp frame (wpE defs 𝒱 c bd) E (.op (.load M (Rect.unit off s.size inb).toLoadRect hl) k) Q) := by
  have h := load (defs := defs) 𝒱 c bd E (Q := Q) (M := M) (r := Rect.unit off s.size inb) (hl := hl) (k := k) (q := q) (X := X)
  rwa [cut_zero] at h

/-- An unmasked store at a rectangle. -/
theorem store {cs : CoreSpace} {M : Memref sig c.2.kind cs s e} {r : Rect s} {w : r.shape.Idx → Val e}
    {hx : (M.access r).Stores Finset.univ} {hm : Finset.univ = Finset.univ ∨ ∀ a, r.stride a = 1}
    {k : PUnit → Prog (TpuEff nD τ sig Val Λ c.2) α} {X : s.Idx → Val e} :
    (owns c M fullShare X : sProp (MT nD τ sig Ix Val Name U Lvl))
      ⊢ iprop((owns c M fullShare (paste X r w) -∗ wp frame (wpE defs 𝒱 c bd) E (k ⟨⟩) Q)
        -∗ wp frame (wpE defs 𝒱 c bd) E (.op (.store M r w Finset.univ hx hm) k) Q) := by
  have hsub : (M.access r).setOn Finset.univ ⊆ M.view.set := by
    rw [show (M.access r).setOn Finset.univ = (M.access r).set from rfl, View.set_slice]
    exact View.setOn_subset_set _ _
  have h : (M.view.loc c ↦[M.view.set]{fullShare} M.view.rep X)
      ⊢ iprop(((M.view.loc c ↦[M.view.set]{fullShare} ((M.access r).write Val (M.view.rep X) w Finset.univ))
          -∗ wp frame (wpE defs 𝒱 c bd) E (k ⟨⟩) Q) -∗ wp frame (wpE defs 𝒱 c bd) E (.op (.store M r w Finset.univ hx hm) k) Q) :=
    wp_store (Γ := []) (defs := defs) 𝒱 c bd E (Q := Q) (m := M) (r := r) (w := w) (Mk := Finset.univ) (hx := hx) (hm := hm) (k := k)
      (S := (M.view.set : Finset (Idx (M.view.loc c)))) (f := (M.view.rep X : Buf Val (M.view.loc c))) hsub
  have e1 : M.view.read Val ((M.access r).write Val (M.view.rep X) w Finset.univ) = paste X r w := by
    funext y
    by_cases hy : ∃ x, r.emb x = y
    · obtain ⟨x, rfl⟩ := hy
      rw [paste_emb]; exact View.read_slice_write_emb r _ w (Finset.mem_univ x)
    · rw [paste_not _ _ _ hy]
      refine (View.read_slice_write_of_not_mem r _ w Finset.univ (fun hm => ?_)).trans (congrFun (View.read_rep _ _) y)
      obtain ⟨x, -, hx⟩ := Finset.mem_map.mp hm
      exact hy ⟨x, hx⟩
  have h2 : (M.view.loc c ↦[M.view.set]{fullShare} ((M.access r).write Val (M.view.rep X) w Finset.univ))
      ⊢ (owns c M fullShare (paste X r w) : sProp (MT nD τ sig Ix Val Name U Lvl)) := by
    rw [← e1]; exact owns_intro c M fullShare _
  rw [owns_eq_rep]
  iintro H Hk
  iapply h $$ H
  iintro H
  iapply Hk
  iapply h2; iexact H

/-- An unmasked store of the whole memref. -/
theorem store_all {cs : CoreSpace} {M : Memref sig c.2.kind cs s e} {off : Fin s.rank → ℕ} {inb : ∀ a, off a + s.size a ≤ s.size a}
    {w : s.Idx → Val e}
    {hx : (M.access (Rect.unit off s.size inb)).Stores Finset.univ} {hm : Finset.univ = Finset.univ ∨ ∀ a, (Rect.unit off s.size inb).stride a = 1}
    {k : PUnit → Prog (TpuEff nD τ sig Val Λ c.2) α} {X : s.Idx → Val e} :
    (owns c M fullShare X : sProp (MT nD τ sig Ix Val Name U Lvl))
      ⊢ iprop((owns c M fullShare w -∗ wp frame (wpE defs 𝒱 c bd) E (k ⟨⟩) Q)
        -∗ wp frame (wpE defs 𝒱 c bd) E (.op (.store M (Rect.unit off s.size inb) w Finset.univ hx hm) k) Q) := by
  have h := store (defs := defs) 𝒱 c bd E (Q := Q) (M := M) (r := Rect.unit off s.size inb) (w := w) (hx := hx) (hm := hm) (k := k) (X := X)
  rwa [paste_zero] at h

end Wp

section Landing

variable {nD : Nat} {τ : Topo} {sig : RefSig} {Val : EltTy → Type} [∀ e, Nonempty (Val e)]
variable {Ix : Type} [DecidableEq Ix] {Name : Type} [DecidableEq Name] {U : Type} [URA U] {Lvl : Type}
variable {s : Shape} {e : EltTy} {sp sp' : Space}

/-- What a copy of a whole memref reading `X` leaves in its destination: a memref reading `X`. -/
theorem landed (c c' : Thread nD τ) (src : Memref sig c.2.kind sp s e) (dst : Memref sig c'.2.kind sp' s e)
    (X : s.Idx → Val e) (fd : Buf Val (dst.view.loc c')) :
    (dst.view.loc c' ↦[dst.view.set]{fullShare} (dst.view.write Val fd (src.view.read Val (src.view.rep X)) Finset.univ))
      ⊢ (owns c' dst fullShare X : sProp (MT nD τ sig Ix Val Name U Lvl)) := by
  have h : dst.view.read Val (dst.view.write Val fd (src.view.read Val (src.view.rep X)) Finset.univ) = X := by
    rw [View.read_write_univ, View.read_rep]
  conv_rhs => rw [← h]
  exact owns_intro c' dst fullShare _

end Landing

end Cert.Steps

end
-- ==== Proof.Contents.lean ====
/-
  What every buffer of the kernel holds, as functions of the arrays the devices start from: the running sums, the edge column
  and row each device keeps for its peers, what arrives from them, the statistics, a row block of the result. Beside each, the
  fact that the rectangle the body reads or writes is the rows and columns the function names.
-/
module

public import proofs.«01_k».proof.Proof.Phases
public import proofs.«01_k».proof.Proof.Steps
public import proofs.«01_k».proof.Proof.Gen.KernelIdeal.Frame
public import Idealize.ShloMosaic.Lib.ValueIdxCore
public import Idealize.ShloMosaic.Lib.Pipeline.Value

@[expose] public section

noncomputable section

namespace Cert.KernelIdeal.Run

open Idealize.ShloMosaic Idealize.ShloMosaic.TcCoe Idealize.SL.Sem
open Idealize.ShloMosaic.ValueIdx (ix4 eq_ix4)
open Cert.KernelIdeal Cert.KernelIdeal.Gen Cert.Steps

variable {F : FTy → Type} [FloatOps F]

/-! ## The mesh: the peers along its two axes -/

/-- The device of the other row of the mesh, and of the other column. -/
def pX (c : Dev nD) : Dev nD := ⟨((c.val % 2) + 2) - 2 * (c.val / 2), by have : c.val < 4 := c.isLt; show _ < 4; omega⟩
def pY (c : Dev nD) : Dev nD := ⟨(2 * (c.val / 2) + 1) - (c.val % 2), by have : c.val < 4 := c.isLt; show _ < 4; omega⟩
theorem pX_pX (c : Dev nD) : pX (pX c) = c := by revert c; decide
theorem pY_pY (c : Dev nD) : pY (pY c) = c := by revert c; decide
theorem pX_ne_pY (c d : Dev nD) (h : pX c = pY d) : d ≠ c := by revert c d; decide
def eX : Dev nD ≃ Dev nD := ⟨pX, pX, pX_pX, pX_pX⟩
def eY : Dev nD ≃ Dev nD := ⟨pY, pY, pY_pY, pY_pY⟩

theorem dev1_eq (d : Dev nD) (h : k0_dev1 d < nD) : (⟨k0_dev1 d, h⟩ : Dev nD) = pX d := Fin.ext (k0_dev1_eq d)
theorem dev2_eq (d : Dev nD) (h : k0_dev2 d < nD) : (⟨k0_dev2 d, h⟩ : Dev nD) = pY d := Fin.ext (k0_dev2_eq d)
theorem dev3_eq (d : Dev nD) (h : k0_dev3 d < nD) : (⟨k0_dev3 d, h⟩ : Dev nD) = pY d := Fin.ext (k0_dev3_eq d)
theorem dev4_eq (d : Dev nD) (h : k0_dev4 d < nD) : (⟨k0_dev4 d, h⟩ : Dev nD) = pX d := Fin.ext (k0_dev4_eq d)
theorem dev5_eq (d : Dev nD) (h : k0_dev5 d < nD) : (⟨k0_dev5 d, h⟩ : Dev nD) = pY d := Fin.ext (k0_dev5_eq d)
theorem dev6_eq (d : Dev nD) (h : k0_dev6 d < nD) : (⟨k0_dev6 d, h⟩ : Dev nD) = pX d := Fin.ext (k0_dev6_eq d)

/-! ## The grid's points -/

abbrev crd (t : Fin cfg0.N) : grid0.Coords := cfg0.grid.coords t
theorem crd_val : ∀ t : Fin cfg0.N, (crd t 0).val = t.val := by decide +kernel
theorem lt32 (t : Fin cfg0.N) : t.val < 32 := N_0 ▸ t.isLt
theorem cond1_iff : ∀ t : Fin cfg0.N, k0_cond1 (crd t) = 1#1 ↔ t.val = 0 := by decide +kernel
theorem cond2_iff : ∀ t : Fin cfg0.N, k0_cond2 (crd t) = 1#1 ↔ t.val < 16 := by decide +kernel
theorem cond3_iff : ∀ (t : Fin cfg0.N) (d : Dev nD), k0_cond3 (crd t) d = 1#1 ↔ t.val = if d.val / 2 = 0 then 15 else 0 := by decide +kernel
theorem cond4_iff : ∀ t : Fin cfg0.N, k0_cond4 (crd t) = 1#1 ↔ t.val = 15 := by decide +kernel
theorem cond5_iff : ∀ t : Fin cfg0.N, cond5 (crd t) = 1#1 ↔ t.val = 16 := by decide +kernel
theorem cond6_iff : ∀ t : Fin cfg0.N, k0_cond6 (crd t) = 1#1 ↔ 16 ≤ t.val := by decide +kernel
theorem off5_eq : ∀ i : grid0.Coords, k0_cond6 i = 1#1 → k0_off5 i = ![0, 16 * ((i 0).val - 16), 0, 0] := by decide +kernel
theorem off6_eq : ∀ i : grid0.Coords, k0_cond6 i = 1#1 → k0_off6 i = ![0, min (16 * ((i 0).val - 15)) 255, 0, 0] := by decide +kernel
theorem off7_eq : ∀ i : grid0.Coords, k0_cond6 i = 1#1 → k0_off7 i = ![0, 16 * ((i 0).val - 16) + 15, 0, 0] := by decide +kernel
theorem jW_first : ∀ i : grid0.Coords, (i 0).val = 16 → Scalar.cmpi .eq (jW i) 0#32 = 1#1 := by decide +kernel

variable (m : (ℓ : Loc nD τ sig) → Buf (Elt F) ℓ)

/-! ## The windows' blocks -/

def xblk (c : Dev nD) (t : Fin cfg0.N) : Vec F S2x16x256x128 .f32 := iblk m c 0 t
def kblk (c : Dev nD) (t : Fin cfg0.N) : Vec F S3x3x128 .f32 := iblk m c 1 t
def wblk (c : Dev nD) (t : Fin cfg0.N) : Vec F S128x128 .f32 := iblk m c 2 t
def bblk (c : Dev nD) (t : Fin cfg0.N) : Vec F S1x2x256x128 .f32 := iblk m c 3 t

/-- A point from a number, the last one standing for those past the end. -/
def pt (n : ℕ) : Fin cfg0.N := ⟨min n 31, Nat.lt_of_le_of_lt (Nat.min_le_right n 31) (by show 31 < grid0.N; rw [N_0]; decide)⟩
theorem pt_val (t : Fin cfg0.N) : pt t.val = t := Fin.ext (Nat.min_eq_left (Nat.le_of_lt_succ (lt32 t)))

/-! ## The sums, the edge column, the edge row -/

/-- The sums after `n` row blocks. -/
def accAt (c : Dev nD) : ℕ → Vec F S2x2x128 .f32
  | 0 => k0_pay1
  | n + 1 => k0_pay2 (xblk m c (pt n)) (accAt c n)

/-- The column facing the peer of the other mesh column: the last, or the first. -/
abbrev colOf (c : Dev nD) : Fin 256 := if c.val % 2 = 0 then 255 else 0
/-- The row facing the peer of the other mesh row, in its block. -/
abbrev rowOf (c : Dev nD) : Fin 16 := if c.val / 2 = 0 then 15 else 0
abbrev rowPt (c : Dev nD) : ℕ := if c.val / 2 = 0 then 15 else 0

def xcol (c : Dev nD) : Vec F S2x256x1x128 .f32 := fun y =>
  xblk m c (pt ((y 1).val / 16)) (ix4 (n0 := 2) (n1 := 16) (n2 := 256) (n3 := 128) (y 0) ⟨(y 1).val % 16, by omega⟩ (colOf c) (y 3))
def xrow (c : Dev nD) : Vec F S2x1x256x128 .f32 := fun y =>
  xblk m c (pt (rowPt c)) (ix4 (n0 := 2) (n1 := 16) (n2 := 256) (n3 := 128) (y 0) (rowOf c) (y 2) (y 3))

/-- `f` is the edge column on the rows of the first `n` row blocks. -/
def ColUpTo (c : Dev nD) (n : ℕ) (f : Vec F S2x256x1x128 .f32) : Prop := ∀ y, (y 1).val < 16 * n → f y = xcol m c y
/-- `g` is the edge row once the point that stores it has passed. -/
def RowFrom (c : Dev nD) (n : ℕ) (g : Vec F S2x1x256x128 .f32) : Prop := rowPt c < n → g = xrow m c

theorem colUpTo_zero (c : Dev nD) (f) : ColUpTo m c 0 f := fun _ h => absurd h (Nat.not_lt_zero _)
theorem colUpTo_all (c : Dev nD) {f} (h : ColUpTo m c 16 f) : f = xcol m c := funext fun y => h y (by have : (y 1).val < 256 := (y 1).isLt; omega)
theorem rowFrom_all (c : Dev nD) {g} (h : RowFrom m c 16 g) : g = xrow m c := h (by unfold rowPt; split <;> omega)
theorem rowFrom_zero (c : Dev nD) (g) : RowFrom m c 0 g := fun h => absurd h (Nat.not_lt_zero _)

theorem colUpTo_succ (c : Dev nD) (t : Fin cfg0.N) (h : k0_cond2 (crd t) = 1#1) {f} (hf : ColUpTo m c t.val f) :
    ColUpTo m c (t.val + 1) (paste f (slotC (crd t) h) (k0_pay3 (cut (edgeC (crd t) c h) (xblk m c t)))) := by
  have h16 := (cond2_iff t).mp h
  have o2 := k0_off2_eq (crd t)
  have o1 := k0_off1_eq c
  rw [crd_val] at o2
  intro y hy
  have hy3 : (y 1).val < 256 := (y 1).isLt
  by_cases hlt : (y 1).val < 16 * t.val
  · rw [paste_not, hf y hlt]
    rintro ⟨x, hx⟩
    have := congrArg (fun z => (z 1).val) hx
    have e : ((slotC (crd t) h).emb x 1).val = k0_off2 (crd t) 1 + 1 * (x 1).val := rfl
    rw [o2] at e
    have e' : ((slotC (crd t) h).emb x 1).val = 16 * t.val + 1 * (x 1).val := e
    simp only [e'] at this; omega
  · let z : S2x16x1x128.Idx := ix4 (n0 := 2) (n1 := 16) (n2 := 1) (n3 := 128) (y 0) ⟨(y 1).val % 16, by omega⟩ (y 2) (y 3)
    have hz : (slotC (crd t) h).emb z = y := by
      funext a
      apply Fin.ext
      show k0_off2 (crd t) a + 1 * (z a).val = (y a).val
      rw [o2]
      match a with
      | ⟨0, _⟩ => show 0 + 1 * (y 0).val = (y 0).val; omega
      | ⟨1, _⟩ => show 16 * t.val + 1 * ((y 1).val % 16) = (y 1).val; omega
      | ⟨2, _⟩ => show 0 + 1 * (y 2).val = (y 2).val; omega
      | ⟨3, _⟩ => show 0 + 1 * (y 3).val = (y 3).val; omega
    have ht : pt ((y 1).val / 16) = t := by
      have e : (y 1).val / 16 = t.val := by omega
      rw [e, pt_val]
    have hv := paste_emb f (slotC (crd t) h) (k0_pay3 (cut (edgeC (crd t) c h) (xblk m c t))) z
    rw [hz] at hv
    rw [hv]
    unfold xcol k0_pay3
    rw [ht]
    simp only [shapeCast_self]
    refine congrArg (xblk m c t) (funext fun a => Fin.ext ?_)
    show k0_off1 c a + 1 * (z a).val = _
    rw [o1]
    match a with
    | ⟨0, _⟩ => show 0 + 1 * (y 0).val = (y 0).val; omega
    | ⟨1, _⟩ => show 0 + 1 * ((y 1).val % 16) = (y 1).val % 16; omega
    | ⟨2, _⟩ =>
      have : (y 2).val < 1 := (y 2).isLt
      show (if c.val % 2 = 0 then 255 else 0) + 1 * (y 2).val = (colOf c).val
      unfold colOf; split <;> (simp; omega)
    | ⟨3, _⟩ => show 0 + 1 * (y 3).val = (y 3).val; omega

theorem rowFrom_store (c : Dev nD) (t : Fin cfg0.N) (h : k0_cond2 (crd t) = 1#1) (h3 : k0_cond3 (crd t) c = 1#1) (n : ℕ) :
    RowFrom m c n (k0_pay4 (cut (edgeR (crd t) c h h3) (xblk m c t))) := fun _ => by
  have ht : t.val = rowPt c := (cond3_iff t c).mp h3
  funext y
  unfold xrow k0_pay4
  rw [← ht, pt_val]
  simp only [shapeCast_self]
  refine congrArg (xblk m c t) (funext fun a => Fin.ext ?_)
  show k0_off3 c a + 1 * (y a).val = _
  rw [k0_off3_eq]
  match a with
  | ⟨0, _⟩ => show 0 + 1 * (y 0).val = (y 0).val; omega
  | ⟨1, _⟩ =>
    have : (y 1).val < 1 := (y 1).isLt
    show (if c.val / 2 = 0 then 15 else 0) + 1 * (y 1).val = (rowOf c).val
    unfold rowOf; split <;> (simp; omega)
  | ⟨2, _⟩ => show 0 + 1 * (y 2).val = (y 2).val; omega
  | ⟨3, _⟩ => show 0 + 1 * (y 3).val = (y 3).val; omega

theorem rowFrom_skip (c : Dev nD) (t : Fin cfg0.N) (h3 : ¬ k0_cond3 (crd t) c = 1#1) {g} (h : RowFrom m c t.val g) : RowFrom m c (t.val + 1) g :=
  fun hn => h (by have hne : ¬ t.val = rowPt c := fun e => h3 ((cond3_iff t c).mpr e); omega)

/-! ## The exchange -/

/-- The device's own sums; the sums of both mesh rows of its column; the statistics. -/
def sumOf (c : Dev nD) : Vec F S2x2x128 .f32 := k0_pay7 (accAt m c 16)
def sum2Of (c : Dev nD) : Vec F S2x2x128 .f32 := k0_pay8 (sumOf m c) (sumOf m (pX c))
def statOf (c : Dev nD) : Vec F S2x2x128 .f32 := k0_pay10 (k0_pay9 (sum2Of m c) (sum2Of m (pY c)))
/-- The column beside the device's own: its peer's edge column. -/
def colH (c : Dev nD) : Vec F S2x256x1x128 .f32 := xcol m (pY c)

/-- One row of an edge column, and sixteen. -/
def colRow (r : Fin 256) (X : Vec F S2x256x1x128 .f32) : Vec F S2x1x1x128 .f32 := fun y =>
  X (ix4 (n0 := 2) (n1 := 256) (n2 := 1) (n3 := 128) (y 0) r 0 (y 3))
def colRows (n : Fin 16) (X : Vec F S2x256x1x128 .f32) : Vec F S2x16x1x128 .f32 := fun y =>
  X (ix4 (n0 := 2) (n1 := 256) (n2 := 1) (n3 := 128) (y 0) ⟨16 * n.val + (y 1).val, by have : (y 1).val < 16 := (y 1).isLt; omega⟩ 0 (y 3))

/-- A one-row rectangle of an edge column, from its offset. -/
theorem cut_colRow (r : Fin 256) (X : Vec F S2x256x1x128 .f32) {off : Fin 4 → ℕ} (inb : ∀ a, off a + S2x1x1x128.size a ≤ S2x256x1x128.size a)
    (ho : off = ![0, r.val, 0, 0]) : cut (Rect.unit (s := S2x256x1x128) off S2x1x1x128.size inb) X = colRow r X := by
  subst ho
  funext y
  refine congrArg X (funext fun a => Fin.ext ?_)
  match a with
  | ⟨0, _⟩ => show 0 + 1 * (y 0).val = (y 0).val; omega
  | ⟨1, _⟩ => have : (y 1).val < 1 := (y 1).isLt; show r.val + 1 * (y 1).val = r.val; omega
  | ⟨2, _⟩ => have : (y 2).val < 1 := (y 2).isLt; show 0 + 1 * (y 2).val = 0; omega
  | ⟨3, _⟩ => show 0 + 1 * (y 3).val = (y 3).val; omega

theorem cut_colRows (n : Fin 16) (X : Vec F S2x256x1x128 .f32) {off : Fin 4 → ℕ} (inb : ∀ a, off a + S2x16x1x128.size a ≤ S2x256x1x128.size a)
    (ho : off = ![0, 16 * n.val, 0, 0]) : cut (Rect.unit (s := S2x256x1x128) off S2x16x1x128.size inb) X = colRows n X := by
  subst ho
  funext y
  refine congrArg X (funext fun a => Fin.ext ?_)
  match a with
  | ⟨0, _⟩ => show 0 + 1 * (y 0).val = (y 0).val; omega
  | ⟨1, _⟩ => show 16 * n.val + 1 * (y 1).val = 16 * n.val + (y 1).val; omega
  | ⟨2, _⟩ => have : (y 2).val < 1 := (y 2).isLt; show 0 + 1 * (y 2).val = 0; omega
  | ⟨3, _⟩ => show 0 + 1 * (y 3).val = (y 3).val; omega

/-- The row of the corner: the edge row's own. -/
abbrev cornRow (c : Dev nD) : Fin 256 := if c.val / 2 = 0 then 255 else 0
theorem cut_corn (c : Dev nD) (i : grid0.Coords) (h : k0_cond4 i = 1#1) (X : Vec F S2x256x1x128 .f32) :
    cut (cornC i c h) X = colRow (cornRow c) X :=
  cut_colRow _ X _ (by rw [k0_off4_eq]; unfold cornRow; split <;> rfl)

/-- The edge row with its two corners, sent to the peer of the other mesh row; the row beside the device's own: its peer's. -/
def extOf (c : Dev nD) : Vec F S2x1x258x128 .f32 :=
  k0_pay5 c (xrow m c) (colRow (cornRow c) (colH m c)) (k0_pay11 (myW c) (xrow m c) (colRow (cornRow c) (colH m c)))
def rowH (c : Dev nD) : Vec F S2x1x258x128 .f32 := extOf m (pX c)

/-! ## A row block of the result -/

/-- The row block of a point: 0 to 15. -/
def jOf (n : ℕ) : Fin 16 := ⟨(n - 16) % 16, Nat.mod_lt _ (by decide)⟩
def belRow (n : ℕ) : Fin 256 := ⟨min (16 * (n - 15)) 255, by omega⟩
def lasRow (n : ℕ) : Fin 256 := ⟨min (16 * (n - 16) + 15) 255, by omega⟩

theorem cut_bes (t : Fin cfg0.N) (h : k0_cond6 (crd t) = 1#1) (X : Vec F S2x256x1x128 .f32) : cut (besC (crd t) h) X = colRows (jOf t.val) X :=
  cut_colRows _ X _ (by
    rw [off5_eq _ h, crd_val]
    have h1 := lt32 t; have h2 := (cond6_iff t).mp h
    have e : (jOf t.val).val = t.val - 16 := by show (t.val - 16) % 16 = _; omega
    rw [e])
theorem cut_bel (t : Fin cfg0.N) (h : k0_cond6 (crd t) = 1#1) (X : Vec F S2x256x1x128 .f32) : cut (belC (crd t) h) X = colRow (belRow t.val) X :=
  cut_colRow _ X _ (by rw [off6_eq _ h, crd_val]; rfl)
theorem cut_las (t : Fin cfg0.N) (h : k0_cond6 (crd t) = 1#1) (X : Vec F S2x256x1x128 .f32) : cut (lasC (crd t) h) X = colRow (lasRow t.val) X :=
  cut_colRow _ X _ (by
    rw [off7_eq _ h, crd_val]
    have h1 := lt32 t
    have e : (lasRow t.val).val = 16 * (t.val - 16) + 15 := by show min _ 255 = _; omega
    rw [e])
theorem cut_top (X : Vec F S2x256x1x128 .f32) : cut topC X = colRow 0 X := cut_colRow _ X _ rfl

/-- What is kept of the block before point `n`'s. -/
def carAt (c : Dev nD) (n : ℕ) : Vec F S2x1x258x128 .f32 := carOf c (xblk m c (pt (n - 1))) (colRow (lasRow (n - 1)) (colH m c))

/-- The row block the device stores at point `t`, the kept row being `ca`. -/
def outWith (c : Dev nD) (t : Fin cfg0.N) (ca : Vec F S2x1x258x128 .f32) : Vec F S2x16x256x128 .f32 :=
  outOf (crd t) c (statOf m c) (xblk m c t) (colRows (jOf t.val) (colH m c)) (colRow 0 (colH m c)) (colRow (belRow t.val) (colH m c))
    (rowH m c) ca (bblk m c t) (kblk m c t) (wblk m c t)
def outAt (c : Dev nD) (t : Fin cfg0.N) : Vec F S2x16x256x128 .f32 := outWith m c t (carAt m c t.val)

/-- At the first row block the kept row is not used. -/
theorem outWith_first (c : Dev nD) (t : Fin cfg0.N) (h : t.val = 16) (ca : Vec F S2x1x258x128 .f32) : outWith m c t ca = outAt m c t := by
  have e : ∀ a b : Vec F S2x1x258x128 .f32, topRow (crd t) c (statOf m c) (xblk m c t) (colRow 0 (colH m c)) (rowH m c) a
      = topRow (crd t) c (statOf m c) (xblk m c t) (colRow 0 (colH m c)) (rowH m c) b := fun a b => by
    unfold topRow k0_pay17
    rw [jW_first (crd t) ((crd_val t).trans h)]
    rfl
  unfold outAt outWith outOf
  rw [e ca (carAt m c t.val)]

end Cert.KernelIdeal.Run

end
-- ==== Proof.Protocol.lean ====
/-
  The agreement between the devices. Every device has one barrier cell, which its two peers raise once each, and eight cells
  of its remote copies, each paid once. A device raising its peer's barrier hands over the buffers the peer's copies land in; a
  copy hands the buffer on at the contents it lands with. Levels put every wait below all that is still owed at it.
-/
module

public import proofs.«01_k».proof.Proof.Contents
public import Idealize.ShloMosaic.Lib.Pipeline.RegionTalk

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Steps

variable {F : FTy → Type} [FloatOps F]

/-- The pipeline's own ghost state, and the rounds' of the cells above. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

variable (m : (ℓ : Loc nD τ sig) → Buf (Elt F) ℓ)

/-! ## Cells, amounts, payloads -/

abbrev barCell (c : Dev nD) : GSem nD τ sig := ((c : Thread nD τ), .reg barS)
abbrev dcell (c : Dev nD) (k : Fin 8) : GSem nD τ sig := ((c : Thread nD τ), .dma (dsem k))
/-- Which copy a semaphore counts. -/
def dk (j : DmaSem sig) : Fin 8 := ⟨(j.val - 8) % 8, Nat.mod_lt _ (by decide)⟩
theorem dk_dsem : ∀ k : Fin 8, dk (dsem k) = k := by decide

/-- What a copy of the edge column, of the edge row, of the sums counts. -/
abbrev colN : ℕ := (colM : Memref sig .tc .vmem S2x256x1x128 .f32).view.dmaCredit
abbrev rowN : ℕ := (rowM : Memref sig .tc .vmem S2x1x258x128 .f32).view.dmaCredit
abbrev sumN : ℕ := (sbM : Memref sig .tc .vmem S2x2x128 .f32).view.dmaCredit
def NN : Fin 8 → ℕ
  | 0 | 2 => colN
  | 1 | 3 => rowN
  | 4 | 5 | 6 | 7 => sumN
theorem NN_pos (k : Fin 8) : 0 < NN k := by
  have h0 : 0 < colN := View.dmaCredit_pos _ (by decide)
  have h1 : 0 < rowN := View.dmaCredit_pos _ (by decide)
  have h2 : 0 < sumN := View.dmaCredit_pos _ (by decide)
  fin_cases k <;> assumption

/-- Device `c`'s buffer `M`, whole, reading `X`; reading something. -/
abbrev at_ {s : Shape} (c : Dev nD) (M : Memref sig .tc .vmem s .f32) (X : Vec F s .f32) : sProp 𝕄 := owns (c : Thread nD τ) M fullShare X
abbrev any {s : Shape} (c : Dev nD) (M : Memref sig .tc .vmem s .f32) : sProp 𝕄 := iprop(∃ f : Vec F s .f32, at_ c M f)

/-- What the cell of copy `k` on device `c` is paid: the source back, or the destination at what has landed. -/
def pay (c : Dev nD) : Fin 8 → sProp 𝕄
  | 0 => at_ c scolM (xcol m c)
  | 1 => at_ c extM (extOf m c)
  | 2 => at_ c colM (colH m c)
  | 3 => at_ c rowM (rowH m c)
  | 4 => at_ c sbM (sumOf m c)
  | 5 => at_ c sb2M (sum2Of m c)
  | 6 => at_ c rxM (sumOf m (pX c))
  | 7 => at_ c ryM (sum2Of m (pY c))

/-- What device `p` hands its peer across the mesh rows, and across the mesh columns: the buffers the peer's copies land in, and
    that their cells are open. -/
def lendX (p : Dev nD) : sProp 𝕄 :=
  iprop(any (F := F) p rxM ∗ any (F := F) p rowM ∗ reached ER (dcell p 6) 0 ∗ reached ER (dcell p 3) 0)
def lendY (p : Dev nD) : sProp 𝕄 :=
  iprop(any (F := F) p ryM ∗ any (F := F) p colM ∗ reached ER (dcell p 7) 0 ∗ reached ER (dcell p 2) 0)
def barPay (c : Dev nD) : Bool → sProp 𝕄
  | false => lendX (F := F) (pX c)
  | true => lendY (F := F) (pY c)

/-! ## The schedule -/

def dutiesOf : SemLoc sig → Finset Bool
  | .reg s => if s = barS then Finset.univ else ∅
  | .dma j => if 8 ≤ j.val then {false} else ∅
def amountOf : SemLoc sig → ℕ
  | .reg _ => 1
  | .dma j => NN (dk j)
def payOf (c : Dev nD) (b : Bool) : SemLoc sig → sProp 𝕄
  | .reg _ => barPay (F := F) c b
  | .dma j => pay m c (dk j)

/-- One round on every cell. -/
def Rd : Rounds.Schedule (GSem nD τ sig) Bool 𝕄 where
  duties g r := if r = 0 ∧ g.1.2 = .tc then dutiesOf g.2 else ∅
  unitless _ := False
  amount g _ _ := amountOf g.2
  payload g _ b := payOf m g.1.1 b g.2
  amount_pos g _ _ _ := by
    cases h : g.2 with
    | reg s => exact Nat.one_pos
    | dma j => exact NN_pos _

instance pay_storable (c : Dev nD) (k : Fin 8) : BI.Storable (upEmb : UEmb _ 𝕄) (pay m c k) := by
  match k with
  | 0 | 1 | 2 | 3 | 4 | 5 | 6 | 7 => unfold pay at_; infer_instance
instance barPay_storable (c : Dev nD) (b : Bool) : BI.Storable (upEmb : UEmb _ 𝕄) (barPay (F := F) c b) := by
  cases b
  · unfold barPay lendX; infer_instance
  · unfold barPay lendY; infer_instance
instance Rd_payload_storable (g : GSem nD τ sig) (r : ℕ) (b : Bool) : BI.Storable (upEmb : UEmb _ 𝕄) ((Rd (F := F) m).payload g r b) := by
  show BI.Storable upEmb (payOf m g.1.1 b g.2)
  cases h : g.2 with
  | reg s => exact barPay_storable _ _
  | dma j => exact pay_storable m _ _

section Sched

variable (c : Dev nD) (k : Fin 8)

theorem duties_bar : (Rd (F := F) m).duties (barCell c) 0 = Finset.univ := by
  dsimp only [Rd, dutiesOf]; rw [if_pos ⟨rfl, rfl⟩, if_pos rfl]
theorem duties_d : (Rd (F := F) m).duties (dcell c k) 0 = {false} := by
  dsimp only [Rd, dutiesOf]; rw [if_pos ⟨rfl, rfl⟩, if_pos (Nat.le_add_right 8 _)]
theorem duties_later (g : GSem nD τ sig) : ∀ r, 1 ≤ r → (Rd (F := F) m).duties g r = ∅ :=
  fun r hr => by dsimp only [Rd]; rw [if_neg (fun h => by omega)]
theorem amount_bar (b : Bool) : (Rd (F := F) m).amount (barCell c) 0 b = 1 := rfl
theorem amount_d (b : Bool) : (Rd (F := F) m).amount (dcell c k) 0 b = NN k := congrArg NN (dk_dsem k)
theorem expect_bar : (Rd (F := F) m).expect (barCell c) 0 = 2 := by
  unfold Schedule.expect Schedule.amountOf; rw [duties_bar]; rfl
theorem expect_d : (Rd (F := F) m).expect (dcell c k) 0 = NN k := by
  unfold Schedule.expect Schedule.amountOf; rw [duties_d, Finset.sum_singleton, amount_d]
theorem payload_bar (b : Bool) : (Rd (F := F) m).payload (barCell c) 0 b = barPay (F := F) c b := rfl
theorem payload_d (b : Bool) : (Rd (F := F) m).payload (dcell c k) 0 b = pay m c k := congrArg (pay m c) (dk_dsem k)
theorem rest_bar : bigSep ((Rd (F := F) m).duties (barCell c) 0 \ ∅) (fun b => (Rd (F := F) m).payload (barCell c) 0 b)
    = iprop(lendX (F := F) (pX c) ∗ lendY (F := F) (pY c)) := by
  rw [Finset.sdiff_empty, duties_bar]
  exact bigSep_univ_eq_bigSepL [false, true] (by decide) (by decide) _
theorem rest_d : bigSep ((Rd (F := F) m).duties (dcell c k) 0 \ ∅) (fun b => (Rd (F := F) m).payload (dcell c k) 0 b) = pay m c k := by
  rw [Finset.sdiff_empty, duties_d, bigSep_singleton, payload_d]

end Sched

/-! ## What each core owes; the levels -/

/-- Owed with the edge row's copy left, with the second sums' too, with the first's, with the edge column's. -/
def O1 (c : Dev nD) : CellTallies nD τ sig Unit := 0 + tallyAt (dcell (pX c) 3) () (NN 3)
def O2 (c : Dev nD) : CellTallies nD τ sig Unit := O1 c + tallyAt (dcell (pY c) 7) () (NN 7)
def O3 (c : Dev nD) : CellTallies nD τ sig Unit := O2 c + tallyAt (dcell (pX c) 6) () (NN 6)
def O4 (c : Dev nD) : CellTallies nD τ sig Unit := O3 c + tallyAt (dcell (pY c) 2) () (NN 2)
def O5 (c : Dev nD) : CellTallies nD τ sig Unit := O4 c + tallyAt (barCell (pY c)) () 1
/-- And the two peers' barriers: at launch. -/
def O₀ (c : Dev nD) : CellTallies nD τ sig Unit := O5 c + tallyAt (barCell (pX c)) () 1

def L (g : GSem nD τ sig) : Finset Unit := if g.1.2 = .tc then {()} else ∅
def lvS : SemLoc sig → ℕ
  | .reg s => if s = barS then 1 else 0
  | .dma j => if j = dsem 6 then 2 else if j = dsem 7 then 3 else if j = dsem 2 then 3 else if j = dsem 3 then 5 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- Everything owed is above `n`. -/
def Above (n : ℕ) (O : CellTallies nD τ sig Unit) : Prop := ∀ g u, 0 < O g u → u ∈ L g ∧ n < lv g u
theorem above_zero (n : ℕ) : Above n 0 := fun _ _ h => absurd h (Nat.lt_irrefl 0)
theorem above_add {n : ℕ} {O O' : CellTallies nD τ sig Unit} (h : Above n O) (h' : Above n O') : Above n (O + O') := fun g u hg => by
  rcases Nat.eq_zero_or_pos (O g u) with e | e
  · exact h' g u (by have : (O + O') g u = O g u + O' g u := rfl; omega)
  · exact h g u e
theorem above_tally {n : ℕ} (c : Dev nD) (sm : SemLoc sig) (k : ℕ) (h : n < lvS sm) : Above n (tallyAt ((c : Thread nD τ), sm) () k) := fun g u hg => by
  rw [tallyAt_apply] at hg
  by_cases e : g = ((c : Thread nD τ), sm) ∧ u = ()
  · rw [e.1, L_tc]; exact ⟨Finset.mem_singleton_self _, h⟩
  · rw [if_neg e] at hg; exact absurd hg (Nat.lt_irrefl 0)

theorem above_O1 (c : Dev nD) : Above 4 (O1 c) := above_add (above_zero _) (above_tally _ _ _ (by decide))
theorem above_O2 (c : Dev nD) : Above 2 (O2 c) :=
  above_add (above_add (above_zero _) (above_tally _ _ _ (by decide))) (above_tally _ _ _ (by decide))
theorem above_O4 (c : Dev nD) : Above 1 (O4 c) :=
  above_add (above_add (above_add (above_add (above_zero _) (above_tally _ _ _ (by decide))) (above_tally _ _ _ (by decide)))
    (above_tally _ _ _ (by decide))) (above_tally _ _ _ (by decide))
theorem above_O₀ (c : Dev nD) : Above 0 (O₀ c) :=
  above_add (above_add (fun g u h => ⟨(above_O4 c g u h).1, by have := (above_O4 c g u h).2; omega⟩) (above_tally _ _ _ (by decide)))
    (above_tally _ _ _ (by decide))

theorem mayWait (c : Dev nD) (sm : SemLoc sig) (n : ℕ) (hs : lvS sm ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hs)
    (fun g u hg => (hO g u hg).2)

/-! ## The cells' records -/

def barEmb : Dev nD ↪ GSem nD τ sig := ⟨barCell, fun a b h => by have := congrArg (fun g : GSem nD τ sig => g.1.1) h; exact this⟩
def dEmb : Dev nD × Fin 8 ↪ GSem nD τ sig := ⟨fun x => dcell x.1 x.2, fun a b h => by
  have h1 : a.1 = b.1 := congrArg (fun g : GSem nD τ sig => g.1.1) h
  have h2 : (SemLoc.dma (dsem a.2) : SemLoc sig) = .dma (dsem b.2) := congrArg (fun g : GSem nD τ sig => g.2) h
  have h3 : dsem a.2 = dsem b.2 := SemLoc.dma.inj h2
  exact Prod.ext h1 (by rw [← dk_dsem a.2, ← dk_dsem b.2, h3])⟩
def barCells : Finset (GSem nD τ sig) := Finset.univ.map barEmb
def dCells : Finset (GSem nD τ sig) := Finset.univ.map dEmb
theorem mem_bar (c : Dev nD) : barCell c ∈ barCells := Finset.mem_map.mpr ⟨c, Finset.mem_univ _, rfl⟩
theorem mem_d (c : Dev nD) (k : Fin 8) : dcell c k ∈ dCells := Finset.mem_map.mpr ⟨(c, k), Finset.mem_univ _, rfl⟩

/-- The record of every cell at the names `K`, and that every barrier cell is open. -/
def invs (K : GSem nD τ sig → ℕ) : sProp 𝕄 :=
  iprop((bigSep (barCells ∪ dCells) fun g => cellInv ER (Rd m) (K g) g) ∗ bigSep barCells fun g => reached ER g 0)
instance invs_persistent (K : GSem nD τ sig → ℕ) : BI.Persistent (invs m K) := by unfold invs; infer_instance

/-- And that device `c`'s own eight are. -/
def recs (K : GSem nD τ sig → ℕ) (c : Dev nD) : sProp 𝕄 :=
  iprop(invs m K ∗ bigSep Finset.univ fun k : Fin 8 => reached ER (dcell c k) 0)
instance recs_persistent (K : GSem nD τ sig → ℕ) (c : Dev nD) : BI.Persistent (recs m K c) := by unfold recs; infer_instance

theorem inv_bar (K : GSem nD τ sig → ℕ) (c p : Dev nD) : recs m K c ⊢ cellInv ER (Rd m) (K (barCell p)) (barCell p) := by
  unfold recs invs
  have h : (bigSep (barCells ∪ dCells) fun g => cellInv ER (Rd m) (K g) g) ⊢ ((fun g => cellInv ER (Rd m) (K g) g) (barCell p)) := bigSep_elim (Finset.mem_union_left dCells (mem_bar p))
  iintro ⟨⟨H, -⟩, -⟩
  iapply h; iexact H
theorem inv_d (K : GSem nD τ sig → ℕ) (c p : Dev nD) (k : Fin 8) : recs m K c ⊢ cellInv ER (Rd m) (K (dcell p k)) (dcell p k) := by
  unfold recs invs
  have h : (bigSep (barCells ∪ dCells) fun g => cellInv ER (Rd m) (K g) g) ⊢ ((fun g => cellInv ER (Rd m) (K g) g) (dcell p k)) := bigSep_elim (Finset.mem_union_right barCells (mem_d p k))
  iintro ⟨⟨H, -⟩, -⟩
  iapply h; iexact H
theorem open_bar (K : GSem nD τ sig → ℕ) (c p : Dev nD) : recs m K c ⊢ reached ER (barCell p) 0 := by
  unfold recs invs
  have h : (bigSep barCells fun g => (reached ER g 0 : sProp 𝕄)) ⊢ ((fun g => (reached ER g 0 : sProp 𝕄)) (barCell p)) := bigSep_elim (mem_bar p)
  iintro ⟨⟨-, H⟩, -⟩
  iapply h; iexact H
theorem open_d (K : GSem nD τ sig → ℕ) (c : Dev nD) (k : Fin 8) : recs m K c ⊢ reached ER (dcell c k) 0 := by
  unfold recs
  have h : (bigSep Finset.univ fun k : Fin 8 => (reached ER (dcell c k) 0 : sProp 𝕄)) ⊢ ((fun k : Fin 8 => (reached ER (dcell c k) 0 : sProp 𝕄)) k) := bigSep_elim (Finset.mem_univ k)
  iintro ⟨-, H⟩
  iapply h; iexact H

end Cert.KernelIdeal.Run

end
-- ==== Proof.Exchange.lean ====
/-
  The phases that talk: the barrier, the exchange of the edge column, the sums and the edge row, the wait for the edge rows.
-/
module

public import proofs.«01_k».proof.Proof.Protocol

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Steps

variable {F : FTy → Type} [FloatOps F]

local notation "𝕄" => MT nD τ sig Unit (Elt F) ℕ UU ℕ

variable (m : (ℓ : Loc nD τ sig) → Buf (Elt F) ℓ)

abbrev 𝒱₀ : Variants := Variants.none

/-- The core owes `O`, its record of waits left open. -/
def due (c : Dev nD) (O : CellTallies nD τ sig Unit) : sProp 𝕄 := iprop(∃ W, owes (c : Thread nD τ) O W)

/-- The weakest precondition of a piece of device `c`'s body. -/
abbrev wpc {α : Type} (c : Dev nD) (p : P (F := F) α) (Q : α → sProp 𝕄) : sProp 𝕄 :=
  wp frame (wpE (defs₀ (F := F)) 𝒱₀ (c : Thread nD τ) none) Set.univ p Q

/-! ## A remote copy, and the wait for one -/

/-- Copy `k` of device `c` to device `p`, counted there by `l`. -/
theorem put_step (K : GSem nD τ sig → ℕ) (c p : Dev nD) {s : Shape} (A B : Memref sig .tc .vmem s .f32) (hA : A.IsWhole) (hB : B.IsWhole) (k l : Fin 8)
    (X : Vec F s .f32) (hk : NN k = B.view.dmaCredit) (hl : NN l = B.view.dmaCredit)
    (hpk : pay m c k = at_ c A X) (hpl : pay m p l = at_ p B X) (O : CellTallies nD τ sig Unit) {Q : PUnit → sProp 𝕄} :
    iprop(recs m K c ∗ at_ c A X ∗ any (F := F) p B ∗ due (F := F) c (O + tallyAt (dcell p l) () (NN l))
        ∗ dutyTok ER (dcell c k) 0 false ∗ dutyTok ER (dcell p l) 0 false ∗ reached ER (dcell p l) 0)
      ⊢ iprop((cred (tallyAt (dcell c k) () (NN k)) ∗ due c O -∗ Q ⟨⟩) -∗ wpc c (put p A B hA hB k l) Q) := by
  have hs : (A.view.loc (c : Thread nD τ) ↦[A.view.set]{fullShare} A.view.rep X) ⊢ (Rd (F := F) m).payload (dcell c k) 0 false := by
    rw [payload_d, hpk]; exact Entails.of_eq (owns_eq_rep _ _ _ _).symm
  have hd : ∀ fd : Buf (Elt F) (B.view.loc (p : Thread nD τ)),
      (B.view.loc (p : Thread nD τ) ↦[B.view.set]{fullShare} (B.view.write (Elt F) fd (A.view.read (Elt F) (A.view.rep X)) Finset.univ))
        ⊢ (Rd (F := F) m).payload (dcell p l) 0 false := fun fd => by
    rw [payload_d, hpl]; exact landed (c : Thread nD τ) (p : Thread nD τ) A B X fd
  unfold due
  iintro ⟨#HR, HA, ⟨%g, HB⟩, ⟨%W, HO⟩, Hk, Hl, Hr⟩ HQ
  simp only [wpc, put, Prog.lift]
  iapply (Rounds.wp_send_pointsTo 𝒱₀ ER (Rd m) (c : Thread nD τ) none (c' := (p : Thread nD τ)) (src := A) (dst := B)
      (sS := .dma (dsem k)) (sem := .dma (dsem l)) (q := fullShare) (fs := A.view.rep X) (κ₁ := K (dcell c k)) (κ₂ := K (dcell p l))
      (r₁ := 0) (r₂ := 0) (d₁ := false) (d₂ := false) (fd := B.view.rep g)
      (by rw [duties_d]; exact Finset.mem_singleton_self _) (by rw [duties_d]; exact Finset.mem_singleton_self _)
      () () B.view.dmaCredit rfl ((amount_d m c k false).trans hk) ((amount_d m p l false).trans hl) (O₀ := O + tallyAt (dcell p l) () (NN l)) O (by rw [hl]) (W := W)
      hs (hd _)) $$ [HA HB HO Hk Hl Hr]
  · isplitr; · iapply (inv_d m K c c k); iexact HR
    isplitr; · iapply (inv_d m K c p l); iexact HR
    isplitl [HA]; · iapply (Entails.of_eq (owns_eq_rep (c : Thread nD τ) A fullShare X)); iexact HA
    isplitl [HB]; · iapply (Entails.of_eq (owns_eq_rep (p : Thread nD τ) B fullShare g)); iexact HB
    isplitl [HO]; · iexact HO
    isplitl [Hk]; · iexact Hk
    isplitr; · iapply (open_d m K c k); iexact HR
    isplitl [Hl]; · iexact Hl
    iexact Hr
  iintro ⟨Hc, HO⟩
  rw [wp_ret]; imodintro
  iapply HQ
  isplitl [Hc]; · rw [hk]; iexact Hc
  iexists _; iexact HO

/-- The wait for copy `k`: what it is paid, and its counter back at zero. -/
theorem await_step (K : GSem nD τ sig → ℕ) (c : Dev nD) {s : Shape} (A B : Memref sig .tc .vmem s .f32) (hA : A.IsWhole) (hB : B.IsWhole) (k : Fin 8)
    (hk : NN k = B.view.dmaCredit) (O : CellTallies nD τ sig Unit) (n : ℕ) (hs : lvS (.dma (dsem k)) ≤ n) (hO : Above n O) {Q : PUnit → sProp 𝕄} :
    iprop(recs m K c ∗ levAts L lv ∗ cred (tallyAt (dcell c k) () (NN k)) ∗ due (F := F) c O ∗ atPos ER (dcell c k) 0 ∅ 0)
      ⊢ iprop((due c O ∗ semVal (dcell c k) 0 ∗ pay m c k -∗ Q ⟨⟩) -∗ wpc c (await k A B hA hB) Q) := by
  unfold due
  iintro ⟨#HR, #Hlev, Hc, ⟨%W, HO⟩, Hat⟩ HQ
  simp only [wpc, await, Prog.lift]
  iapply (Rounds.wp_wait_rest_token 𝒱₀ ER (Rd m) (c : Thread nD τ) none (κ := K (dcell c k))
      (wpE_waitDma2_eq (src := A) (dst := B) 𝒱₀ (c : Thread nD τ) none Set.univ) (Set.mem_univ _) () (O := O) (W := W) (R := 0) (m := 0) (T := ∅)
      ((Nat.zero_add _).trans (hk.symm.trans (expect_d m c k).symm))) $$ [Hc HO Hat]
  · isplitr; · iapply (inv_d m K c c k); iexact HR
    isplitl [Hc]; · rw [← hk]; iexact Hc
    isplitl [HO]; · iexact HO
    isplitr; · iapply (mayWait c _ n hs hO); iexact Hlev
    iexact Hat
  iintro ⟨HO, Hat, -, Hpay⟩
  ihave Hp := (Entails.of_eq (rest_d m c k)) $$ Hpay
  rw [wp_ret]
  imod (Rounds.cell_close ER (Rd m) (κ := K (dcell c k)) (Set.mem_univ _) id (duties_later m (dcell c k))) $$ [Hat] with Hz
  · isplitr; · iapply (inv_d m K c c k); iexact HR
    iexact Hat
  imodintro
  iapply HQ
  isplitl [HO]; · iexists _; iexact HO
  isplitl [Hz]; · iexact Hz
  iexact Hp

/-! ## A load and a store of a buffer of the device -/

theorem rd_step (c : Dev nD) {s : Shape} (M : Memref sig .tc .vmem s .f32) (r : Rect s) (h : 0 < r.shape.numel) (X : Vec F s .f32)
    {Q : Vec F r.shape .f32 → sProp 𝕄} : at_ c M X ⊢ iprop((at_ c M X -∗ Q (cut r X)) -∗ wpc c (rd M r h) Q) := by
  iintro H HQ
  simp only [wpc, rd, Prog.lift]
  iapply (Steps.load 𝒱₀ (c : Thread nD τ) none Set.univ (M := M) (r := r) (X := X)) $$ [H]
  · iexact H
  iintro H
  rw [wp_ret]; imodintro
  iapply HQ; iexact H

theorem rd_all (c : Dev nD) {s : Shape} (M : Memref sig .tc .vmem s .f32) {off : Fin s.rank → ℕ} (inb : ∀ a, off a + s.size a ≤ s.size a)
    (h : 0 < (Rect.unit off s.size inb).shape.numel) (X : Vec F s .f32)
    {Q : Vec F s .f32 → sProp 𝕄} : at_ c M X ⊢ iprop((at_ c M X -∗ Q X) -∗ wpc c (rd M (Rect.unit off s.size inb) h) Q) := by
  have e := rd_step c M (Rect.unit off s.size inb) h X (Q := Q)
  rwa [cut_zero] at e

theorem wr_step (c : Dev nD) {s : Shape} (M : Memref sig .tc .vmem s .f32) (r : Rect s) (h : 0 < r.shape.numel) (w : Vec F r.shape .f32)
    (X : Vec F s .f32) {Q : PUnit → sProp 𝕄} : at_ c M X ⊢ iprop((at_ c M (paste X r w) -∗ Q ⟨⟩) -∗ wpc c (wr M r h w) Q) := by
  iintro H HQ
  simp only [wpc, wr, Prog.lift]
  iapply (Steps.store 𝒱₀ (c : Thread nD τ) none Set.univ (M := M) (r := r) (w := w) (X := X)) $$ [H]
  · iexact H
  iintro H
  rw [wp_ret]; imodintro
  iapply HQ; iexact H

theorem wr_all (c : Dev nD) {s : Shape} (M : Memref sig .tc .vmem s .f32) {off : Fin s.rank → ℕ} (inb : ∀ a, off a + s.size a ≤ s.size a)
    (h : 0 < (Rect.unit off s.size inb).shape.numel) (w X : Vec F s .f32)
    {Q : PUnit → sProp 𝕄} : at_ c M X ⊢ iprop((at_ c M w -∗ Q ⟨⟩) -∗ wpc c (wr M (Rect.unit off s.size inb) h w) Q) := by
  have e := wr_step c M (Rect.unit off s.size inb) h w X (Q := Q)
  rwa [paste_zero] at e

/-! ## The barrier -/

theorem sig_step (K : GSem nD τ sig → ℕ) (c p : Dev nD) (b : Bool) (O : CellTallies nD τ sig Unit) {Q : PUnit → sProp 𝕄} :
    iprop(recs m K c ∗ due (F := F) c (O + tallyAt (barCell p) () 1) ∗ dutyTok ER (barCell p) 0 b ∗ barPay (F := F) p b)
      ⊢ iprop((due c O -∗ Q ⟨⟩) -∗ wpc c (semSignalWord p barS 1#32) Q) := by
  unfold due
  iintro ⟨#HR, ⟨%W, HO⟩, Ht, Hp⟩ HQ
  simp only [wpc, semSignalWord, Prog.lift]
  iapply (Rounds.wp_signal 𝒱₀ ER (Rd m) (c : Thread nD τ) none (dst := (p : Thread nD τ)) (sem := barS) (r := 0) (d := b) (κ := K (barCell p))
      (by rw [duties_bar]; exact Finset.mem_univ _) (amount_bar m p b) () (O₀ := O + tallyAt (barCell p) () 1) O rfl (W := W)) $$ [HO Ht Hp]
  · isplitr; · iapply (inv_bar m K c p); iexact HR
    isplitl [HO]; · iexact HO
    isplitl [Ht]; · iexact Ht
    isplitl [Hp]; · rw [payload_bar]; iexact Hp
    iapply (open_bar m K c p); iexact HR
  iintro HO
  rw [wp_ret]; imodintro
  iapply HQ; iexists _; iexact HO

theorem barwait_step (K : GSem nD τ sig → ℕ) (c : Dev nD) (O : CellTallies nD τ sig Unit) (hO : Above 1 O) {Q : PUnit → sProp 𝕄} :
    iprop(recs m K c ∗ levAts L lv ∗ cred (tallyAt (barCell c) () 2) ∗ due (F := F) c O ∗ atPos ER (barCell c) 0 ∅ 0)
      ⊢ iprop((due c O ∗ semVal (barCell c) 0 ∗ lendX (F := F) (pX c) ∗ lendY (F := F) (pY c) -∗ Q ⟨⟩) -∗ wpc c (semWaitWord barS 2#32) Q) := by
  unfold due
  iintro ⟨#HR, #Hlev, Hc, ⟨%W, HO⟩, Hat⟩ HQ
  simp only [wpc, semWaitWord, Prog.lift]
  iapply (Rounds.wp_wait_rest_token 𝒱₀ ER (Rd m) (c : Thread nD τ) none (κ := K (barCell c))
      (wpE_semWait_eq 𝒱₀ (c : Thread nD τ) none Set.univ) (Set.mem_univ _) () (O := O) (W := W) (R := 0) (m := 0) (T := ∅)
      ((Nat.zero_add 2).trans (expect_bar m c).symm)) $$ [Hc HO Hat]
  · isplitr; · iapply (inv_bar m K c c); iexact HR
    isplitl [Hc]; · iexact Hc
    isplitl [HO]; · iexact HO
    isplitr; · iapply (mayWait c _ 1 (by decide) hO); iexact Hlev
    iexact Hat
  iintro ⟨HO, Hat, -, Hpay⟩
  ihave Hp := (Entails.of_eq (rest_bar m c)) $$ Hpay
  rw [wp_ret]
  imod (Rounds.cell_close ER (Rd m) (κ := K (barCell c)) (Set.mem_univ _) id (duties_later m (barCell c))) $$ [Hat] with Hz
  · isplitr; · iapply (inv_bar m K c c); iexact HR
    iexact Hat
  imodintro
  iapply HQ
  isplitl [HO]; · iexists _; iexact HO
  isplitl [Hz]; · iexact Hz
  iexact Hp

theorem barrier_run (K : GSem nD τ sig → ℕ) (c : Dev nD) (i : grid0.Coords) (h : k0_cond1 i = 1#1) {Q : PUnit → sProp 𝕄} :
    iprop(recs m K c ∗ levAts L lv ∗ atPos ER (barCell c) 0 ∅ 0 ∗ dutyTok ER (barCell (pX c)) 0 false ∗ dutyTok ER (barCell (pY c)) 0 true
        ∗ cred (tallyAt (barCell c) () 2) ∗ due (F := F) c (O₀ c)
        ∗ any (F := F) c rxM ∗ any (F := F) c rowM ∗ any (F := F) c ryM ∗ any (F := F) c colM ∗ any (F := F) c accM)
      ⊢ iprop((due c (O4 c) ∗ semVal (barCell c) 0 ∗ lendX (F := F) (pX c) ∗ lendY (F := F) (pY c) ∗ at_ c accM (accAt m c 0) -∗ Q ⟨⟩)
        -∗ wpc c (barrierP i c h) Q) := by
  have e : ∀ b, barPay (F := F) (cond b (pY c) (pX c)) b = cond b (lendY (F := F) c) (lendX (F := F) c) := fun b => by
    cases b
    · show lendX (pX (pX c)) = _; rw [pX_pX]; rfl
    · show lendY (pY (pY c)) = _; rw [pY_pY]; rfl
  unfold barrierP
  simp only [wpc, wp_bind, dev1_eq, dev2_eq]
  iintro ⟨#HR, #Hlev, Hat, HtX, HtY, Hc, HO, Hrx, Hrow, Hry, Hcol, ⟨%a, Hacc⟩⟩ HQ
  iapply (sig_step m K c (pX c) false (O5 c)) $$ [HO HtX Hrx Hrow]
  · isplitr; · iexact HR
    isplitl [HO]; · iexact HO
    isplitl [HtX]; · iexact HtX
    iapply (Entails.of_eq (e false).symm)
    simp only [cond]; unfold lendX
    isplitl [Hrx]; · iexact Hrx
    isplitl [Hrow]; · iexact Hrow
    isplitr
    · iapply (open_d m K c 6); iexact HR
    · iapply (open_d m K c 3); iexact HR
  iintro HO
  iapply (sig_step m K c (pY c) true (O4 c)) $$ [HO HtY Hry Hcol]
  · isplitr; · iexact HR
    isplitl [HO]; · iexact HO
    isplitl [HtY]; · iexact HtY
    iapply (Entails.of_eq (e true).symm)
    simp only [cond]; unfold lendY
    isplitl [Hry]; · iexact Hry
    isplitl [Hcol]; · iexact Hcol
    isplitr
    · iapply (open_d m K c 7); iexact HR
    · iapply (open_d m K c 2); iexact HR
  iintro HO
  iapply (barwait_step m K c (O4 c) (above_O4 c)) $$ [Hc HO Hat]
  · isplitr; · iexact HR
    isplitr; · iexact Hlev
    isplitl [Hc]; · iexact Hc
    isplitl [HO]; · iexact HO
    iexact Hat
  iintro ⟨HO, Hz, HX, HY⟩
  iapply (rd_all c accM) $$ Hacc
  iintro Hacc
  iapply (wr_all c accM) $$ Hacc
  iintro Hacc
  simp only [Prog.pure_eq_ret, wp_ret]
  imodintro
  iapply HQ
  isplitl [HO]; · iexact HO
  isplitl [Hz]; · iexact Hz
  isplitl [HX]; · iexact HX
  isplitl [HY]; · iexact HY
  iexact Hacc

/-! ## The exchange -/

/-- What the exchange uses: the device's places at the cells it waits on in it, the right to pay each copy, what it may expect. -/
def wires (c : Dev nD) : sProp 𝕄 :=
  iprop((atPos ER (dcell c 0) 0 ∅ 0 ∗ atPos ER (dcell c 2) 0 ∅ 0 ∗ atPos ER (dcell c 4) 0 ∅ 0 ∗ atPos ER (dcell c 5) 0 ∅ 0
      ∗ atPos ER (dcell c 6) 0 ∅ 0 ∗ atPos ER (dcell c 7) 0 ∅ 0)
    ∗ (dutyTok ER (dcell c 0) 0 false ∗ dutyTok ER (dcell c 1) 0 false ∗ dutyTok ER (dcell c 4) 0 false ∗ dutyTok ER (dcell c 5) 0 false)
    ∗ (dutyTok ER (dcell (pY c) 2) 0 false ∗ dutyTok ER (dcell (pX c) 3) 0 false ∗ dutyTok ER (dcell (pX c) 6) 0 false
      ∗ dutyTok ER (dcell (pY c) 7) 0 false)
    ∗ cred (tallyAt (dcell c 2) () (NN 2)) ∗ cred (tallyAt (dcell c 6) () (NN 6)) ∗ cred (tallyAt (dcell c 7) () (NN 7)))
/-- What the wait for the edge rows uses. -/
def rowWires (c : Dev nD) : sProp 𝕄 :=
  iprop(atPos ER (dcell c 1) 0 ∅ 0 ∗ atPos ER (dcell c 3) 0 ∅ 0 ∗ cred (tallyAt (dcell c 3) () (NN 3)))
/-- The counters of the exchange, and of the edge rows, back at zero. -/
def zeros (c : Dev nD) : sProp 𝕄 :=
  iprop(semVal (dcell c 0) 0 ∗ semVal (dcell c 2) 0 ∗ semVal (dcell c 4) 0 ∗ semVal (dcell c 5) 0 ∗ semVal (dcell c 6) 0 ∗ semVal (dcell c 7) 0)
def rowZeros (c : Dev nD) : sProp 𝕄 := iprop(semVal (dcell c 1) 0 ∗ semVal (dcell c 3) 0)

/-- The buffers the later points do not read. -/
def spent (c : Dev nD) : sProp 𝕄 :=
  iprop(any (F := F) c scolM ∗ any (F := F) c srowM ∗ any (F := F) c accM ∗ any (F := F) c sbM ∗ any (F := F) c rxM ∗ any (F := F) c sb2M ∗ any (F := F) c ryM)

set_option maxHeartbeats 1600000 in
theorem exch_run (K : GSem nD τ sig → ℕ) (c : Dev nD) (i : grid0.Coords) (h : k0_cond4 i = 1#1) {Q : PUnit → sProp 𝕄} :
    iprop(recs m K c ∗ levAts L lv ∗ wires (F := F) c ∗ lendX (F := F) (pX c) ∗ lendY (F := F) (pY c) ∗ due (F := F) c (O4 c)
        ∗ at_ c scolM (xcol m c) ∗ at_ c srowM (xrow m c) ∗ at_ c accM (accAt m c 16)
        ∗ any (F := F) c sbM ∗ any (F := F) c sb2M ∗ any (F := F) c statM ∗ any (F := F) c extM)
      ⊢ iprop((due c 0 ∗ zeros (F := F) c ∗ cred (tallyAt (dcell c 1) () (NN 1)) ∗ at_ c colM (colH m c) ∗ at_ c statM (statOf m c) ∗ spent (F := F) c -∗ Q ⟨⟩)
        -∗ wpc c (exchP i c h) Q) := by
  unfold exchP wires lendX lendY
  simp only [wpc, wp_bind, dev3_eq, dev4_eq, dev5_eq, dev6_eq]
  iintro ⟨#HR, #Hlev, ⟨⟨Ha0, Ha2, Ha4, Ha5, Ha6, Ha7⟩, ⟨Ht0, Ht1, Ht4, Ht5⟩, ⟨Hp2, Hp3, Hp6, Hp7⟩, Hc2, Hc6, Hc7⟩, ⟨Hprx, Hprow, #Hr6, #Hr3⟩,
    ⟨Hpry, Hpcol, #Hr7, #Hr2⟩, HO, Hscol, Hsrow, Hacc, ⟨%b0, Hsb⟩, ⟨%b1, Hsb2⟩, ⟨%b2, Hstat⟩, ⟨%b3, Hext⟩⟩ HQ
  iapply (put_step m K c (pY c) scolM colM (Memref.isWhole_whole _) (Memref.isWhole_whole _) 0 2 (xcol m c) rfl rfl rfl
      (by show at_ (pY c) colM (xcol m (pY (pY c))) = _; rw [pY_pY]) (O3 c)) $$ [Hscol Hpcol HO Ht0 Hp2]
  · isplitr; · iexact HR
    isplitl [Hscol]; · iexact Hscol
    isplitl [Hpcol]; · iexact Hpcol
    isplitl [HO]; · iexact HO
    isplitl [Ht0]; · iexact Ht0
    isplitl [Hp2]; · iexact Hp2
    iexact Hr2
  iintro ⟨Hc0, HO⟩
  iapply (rd_all c accM) $$ Hacc
  iintro Hacc
  iapply (rd_all c sbM) $$ Hsb
  iintro Hsb
  iapply (wr_all c sbM) $$ Hsb
  iintro Hsb
  iapply (put_step m K c (pX c) sbM rxM (Memref.isWhole_whole _) (Memref.isWhole_whole _) 4 6 (sumOf m c) rfl rfl rfl
      (by show at_ (pX c) rxM (sumOf m (pX (pX c))) = _; rw [pX_pX]) (O2 c)) $$ [Hsb Hprx HO Ht4 Hp6]
  · isplitr; · iexact HR
    isplitl [Hsb]; · iexact Hsb
    isplitl [Hprx]; · iexact Hprx
    isplitl [HO]; · iexact HO
    isplitl [Ht4]; · iexact Ht4
    isplitl [Hp6]; · iexact Hp6
    iexact Hr6
  iintro ⟨Hc4, HO⟩
  iapply (await_step m K c rxM sbM (Memref.isWhole_whole _) (Memref.isWhole_whole _) 4 rfl (O2 c) 2 (by decide) (above_O2 c)) $$ [Hc4 HO Ha4]
  · isplitr; · iexact HR
    isplitr; · iexact Hlev
    isplitl [Hc4]; · iexact Hc4
    isplitl [HO]; · iexact HO
    iexact Ha4
  iintro ⟨HO, Hz4, Hsb⟩
  iapply (await_step m K c sbM rxM (Memref.isWhole_whole _) (Memref.isWhole_whole _) 6 rfl (O2 c) 2 (by decide) (above_O2 c)) $$ [Hc6 HO Ha6]
  · isplitr; · iexact HR
    isplitr; · iexact Hlev
    isplitl [Hc6]; · iexact Hc6
    isplitl [HO]; · iexact HO
    iexact Ha6
  iintro ⟨HO, Hz6, Hrx⟩
  ihave Hsb := (Entails.of_eq (show pay m c 4 = at_ c sbM (sumOf m c) from rfl)) $$ Hsb
  ihave Hrx := (Entails.of_eq (show pay m c 6 = at_ c rxM (sumOf m (pX c)) from rfl)) $$ Hrx
  iapply (rd_all c sbM) $$ Hsb
  iintro Hsb
  iapply (rd_all c rxM) $$ Hrx
  iintro Hrx
  iapply (rd_all c sb2M) $$ Hsb2
  iintro Hsb2
  iapply (wr_all c sb2M) $$ Hsb2
  iintro Hsb2
  iapply (put_step m K c (pY c) sb2M ryM (Memref.isWhole_whole _) (Memref.isWhole_whole _) 5 7 (sum2Of m c) rfl rfl rfl
      (by show at_ (pY c) ryM (sum2Of m (pY (pY c))) = _; rw [pY_pY]) (O1 c)) $$ [Hsb2 Hpry HO Ht5 Hp7]
  · isplitr; · iexact HR
    isplitl [Hsb2]; · iexact Hsb2
    isplitl [Hpry]; · iexact Hpry
    isplitl [HO]; · iexact HO
    isplitl [Ht5]; · iexact Ht5
    isplitl [Hp7]; · iexact Hp7
    iexact Hr7
  iintro ⟨Hc5, HO⟩
  iapply (await_step m K c ryM sb2M (Memref.isWhole_whole _) (Memref.isWhole_whole _) 5 rfl (O1 c) 4 (by decide) (above_O1 c)) $$ [Hc5 HO Ha5]
  · isplitr; · iexact HR
    isplitr; · iexact Hlev
    isplitl [Hc5]; · iexact Hc5
    isplitl [HO]; · iexact HO
    iexact Ha5
  iintro ⟨HO, Hz5, Hsb2⟩
  iapply (await_step m K c sb2M ryM (Memref.isWhole_whole _) (Memref.isWhole_whole _) 7 rfl (O1 c) 4 (by decide) (above_O1 c)) $$ [Hc7 HO Ha7]
  · isplitr; · iexact HR
    isplitr; · iexact Hlev
    isplitl [Hc7]; · iexact Hc7
    isplitl [HO]; · iexact HO
    iexact Ha7
  iintro ⟨HO, Hz7, Hry⟩
  ihave Hsb2 := (Entails.of_eq (show pay m c 5 = at_ c sb2M (sum2Of m c) from rfl)) $$ Hsb2
  ihave Hry := (Entails.of_eq (show pay m c 7 = at_ c ryM (sum2Of m (pY c)) from rfl)) $$ Hry
  iapply (rd_all c sb2M) $$ Hsb2
  iintro Hsb2
  iapply (rd_all c ryM) $$ Hry
  iintro Hry
  iapply (rd_all c statM) $$ Hstat
  iintro Hstat
  iapply (wr_all c statM) $$ Hstat
  iintro Hstat
  iapply (await_step m K c colM scolM (Memref.isWhole_whole _) (Memref.isWhole_whole _) 0 rfl (O1 c) 4 (by decide) (above_O1 c)) $$ [Hc0 HO Ha0]
  · isplitr; · iexact HR
    isplitr; · iexact Hlev
    isplitl [Hc0]; · iexact Hc0
    isplitl [HO]; · iexact HO
    iexact Ha0
  iintro ⟨HO, Hz0, Hscol⟩
  iapply (await_step m K c scolM colM (Memref.isWhole_whole _) (Memref.isWhole_whole _) 2 rfl (O1 c) 4 (by decide) (above_O1 c)) $$ [Hc2 HO Ha2]
  · isplitr; · iexact HR
    isplitr; · iexact Hlev
    isplitl [Hc2]; · iexact Hc2
    isplitl [HO]; · iexact HO
    iexact Ha2
  iintro ⟨HO, Hz2, Hcol⟩
  ihave Hscol := (Entails.of_eq (show pay m c 0 = at_ c scolM (xcol m c) from rfl)) $$ Hscol
  ihave Hcol := (Entails.of_eq (show pay m c 2 = at_ c colM (colH m c) from rfl)) $$ Hcol
  iapply (rd_all c srowM) $$ Hsrow
  iintro Hsrow
  iapply (rd_step c colM) $$ Hcol
  iintro Hcol
  iapply (rd_all c extM) $$ Hext
  iintro Hext
  iapply (wr_all c extM) $$ Hext
  iintro Hext
  have hext : k0_pay5 c (xrow m c) (cut (cornC i c h) (colH m c)) (k0_pay11 (myW c) (xrow m c) (cut (cornC i c h) (colH m c))) = extOf m c := by
    rw [cut_corn]; rfl
  ihave Hext := (Entails.of_eq (congrArg (at_ c extM) hext)) $$ Hext
  iapply (put_step m K c (pX c) extM rowM (Memref.isWhole_whole _) (Memref.isWhole_whole _) 1 3 (extOf m c) rfl rfl rfl
      (by show at_ (pX c) rowM (extOf m (pX (pX c))) = _; rw [pX_pX]) 0) $$ [Hext Hprow HO Ht1 Hp3]
  · isplitr; · iexact HR
    isplitl [Hext]; · iexact Hext
    isplitl [Hprow]; · iexact Hprow
    isplitl [HO]; · iexact HO
    isplitl [Ht1]; · iexact Ht1
    isplitl [Hp3]; · iexact Hp3
    iexact Hr3
  iintro ⟨Hc1, HO⟩
  simp only [Prog.pure_eq_ret, wp_ret]
  imodintro
  iapply HQ
  unfold zeros spent
  isplitl [HO]; · iexact HO
  isplitl [Hz0 Hz2 Hz4 Hz5 Hz6 Hz7]
  · isplitl [Hz0]; · iexact Hz0
    isplitl [Hz2]; · iexact Hz2
    isplitl [Hz4]; · iexact Hz4
    isplitl [Hz5]; · iexact Hz5
    isplitl [Hz6]; · iexact Hz6
    iexact Hz7
  isplitl [Hc1]; · iexact Hc1
  isplitl [Hcol]; · iexact Hcol
  isplitl [Hstat]; · iexact Hstat
  isplitl [Hscol]; · iexists _; iexact Hscol
  isplitl [Hsrow]; · iexists _; iexact Hsrow
  isplitl [Hacc]; · iexists _; iexact Hacc
  isplitl [Hsb]; · iexists _; iexact Hsb
  isplitl [Hrx]; · iexists _; iexact Hrx
  isplitl [Hsb2]; · iexists _; iexact Hsb2
  iexists _; iexact Hry

/-! ## The wait for the edge rows -/

theorem rowWait_run (K : GSem nD τ sig → ℕ) (c : Dev nD) {Q : PUnit → sProp 𝕄} :
    iprop(recs m K c ∗ levAts L lv ∗ rowWires (F := F) c ∗ cred (tallyAt (dcell c 1) () (NN 1)) ∗ due (F := F) c 0)
      ⊢ iprop((due c 0 ∗ rowZeros (F := F) c ∗ at_ c extM (extOf m c) ∗ at_ c rowM (rowH m c) -∗ Q ⟨⟩) -∗ wpc c (rowWaitP (F := F)) Q) := by
  unfold rowWaitP rowWires
  simp only [wpc, wp_bind]
  iintro ⟨#HR, #Hlev, ⟨Ha1, Ha3, Hc3⟩, Hc1, HO⟩ HQ
  iapply (await_step m K c rowM extM (Memref.isWhole_whole _) (Memref.isWhole_whole _) 1 rfl 0 5 (by decide) (above_zero _)) $$ [Hc1 HO Ha1]
  · isplitr; · iexact HR
    isplitr; · iexact Hlev
    isplitl [Hc1]; · iexact Hc1
    isplitl [HO]; · iexact HO
    iexact Ha1
  iintro ⟨HO, Hz1, Hext⟩
  iapply (await_step m K c extM rowM (Memref.isWhole_whole _) (Memref.isWhole_whole _) 3 rfl 0 5 (by decide) (above_zero _)) $$ [Hc3 HO Ha3]
  · isplitr; · iexact HR
    isplitr; · iexact Hlev
    isplitl [Hc3]; · iexact Hc3
    isplitl [HO]; · iexact HO
    iexact Ha3
  iintro ⟨HO, Hz3, Hrow⟩
  ihave Hext := (Entails.of_eq (show pay m c 1 = at_ c extM (extOf m c) from rfl)) $$ Hext
  ihave Hrow := (Entails.of_eq (show pay m c 3 = at_ c rowM (rowH m c) from rfl)) $$ Hrow
  simp only [Prog.pure_eq_ret, wp_ret]
  imodintro
  iapply HQ
  unfold rowZeros
  isplitl [HO]; · iexact HO
  isplitl [Hz1 Hz3]
  · isplitl [Hz1]; · iexact Hz1
    iexact Hz3
  isplitl [Hext]; · iexact Hext
  iexact Hrow

end Cert.KernelIdeal.Run

end
-- ==== Proof.Rows.lean ====
/-
  The phases that stay on the device: the sums and edges of a row block, and a row block of the result.
-/
module

public import proofs.«01_k».proof.Proof.Exchange

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Steps

variable {F : FTy → Type} [FloatOps F]

local notation "𝕄" => MT nD τ sig Unit (Elt F) ℕ UU ℕ

variable (m : (ℓ : Loc nD τ sig) → Buf (Elt F) ℓ)

/-- The sums, the edge column and the edge row after the first `n` row blocks. -/
def sumsAt (c : Dev nD) (n : ℕ) : sProp 𝕄 :=
  iprop(at_ c accM (accAt m c n) ∗ (∃ f, ⌜ColUpTo m c n f⌝ ∗ at_ c scolM f) ∗ (∃ g, ⌜RowFrom m c n g⌝ ∗ at_ c srowM g))

theorem accum_run (c : Dev nD) (t : Fin cfg0.N) (h : k0_cond2 (crd t) = 1#1) (M1 : Memref sig .tc .vmem S2x16x256x128 .f32) {Q : PUnit → sProp 𝕄} :
    iprop(at_ c M1 (xblk m c t) ∗ sumsAt m c t.val)
      ⊢ iprop((at_ c M1 (xblk m c t) ∗ sumsAt m c (t.val + 1) -∗ Q ⟨⟩) -∗ wpc c (accumP (crd t) c h M1) Q) := by
  have hacc : k0_pay2 (xblk m c t) (accAt m c t.val) = accAt m c (t.val + 1) := by
    show _ = k0_pay2 (xblk m c (pt t.val)) (accAt m c t.val); rw [pt_val]
  unfold accumP sumsAt
  simp only [wpc, wp_bind]
  iintro ⟨Hx, Hacc, ⟨%f, %hf, Hscol⟩, ⟨%g, %hg, Hsrow⟩⟩ HQ
  iapply (rd_all c M1) $$ Hx
  iintro Hx
  iapply (rd_all c accM) $$ Hacc
  iintro Hacc
  iapply (rd_all c accM) $$ Hacc
  iintro Hacc
  iapply (wr_all c accM) $$ Hacc
  iintro Hacc
  ihave Hacc := (Entails.of_eq (congrArg (at_ c accM) hacc)) $$ Hacc
  iapply (rd_step c M1) $$ Hx
  iintro Hx
  iapply (rd_step c scolM) $$ Hscol
  iintro Hscol
  iapply (wr_step c scolM) $$ Hscol
  iintro Hscol
  by_cases h3 : k0_cond3 (crd t) c = 1#1
  · simp only [dif_pos h3]
    unfold rowP
    simp only [wpc, wp_bind]
    iapply (rd_step c M1) $$ Hx
    iintro Hx
    iapply (rd_all c srowM) $$ Hsrow
    iintro Hsrow
    iapply (wr_all c srowM) $$ Hsrow
    iintro Hsrow
    simp only [Prog.pure_eq_ret, wp_ret]
    imodintro
    iapply HQ
    isplitl [Hx]; · iexact Hx
    isplitl [Hacc]; · iexact Hacc
    isplitl [Hscol]
    · iexists _; isplitr [Hscol]
      · ipureintro; exact colUpTo_succ m c t h hf
      · iexact Hscol
    · iexists _; isplitr [Hsrow]
      · ipureintro; exact rowFrom_store m c t h h3 _
      · iexact Hsrow
  · simp only [dif_neg h3, Prog.pure_eq_ret, wp_ret]
    imodintro
    iapply HQ
    isplitl [Hx]; · iexact Hx
    isplitl [Hacc]; · iexact Hacc
    isplitl [Hscol]
    · iexists _; isplitr [Hscol]
      · ipureintro; exact colUpTo_succ m c t h hf
      · iexact Hscol
    · iexists _; isplitr [Hsrow]
      · ipureintro; exact rowFrom_skip m c t h3 hg
      · iexact Hsrow

/-- What the row blocks of the result are made from beside the windows. -/
def rowsAt (c : Dev nD) (n : ℕ) : sProp 𝕄 :=
  iprop(at_ c colM (colH m c) ∗ at_ c rowM (rowH m c) ∗ at_ c statM (statOf m c) ∗ (∃ ca, ⌜16 < n → ca = carAt m c n⌝ ∗ at_ c carM ca))

theorem conv_run (c : Dev nD) (t : Fin cfg0.N) (h : k0_cond6 (crd t) = 1#1) (M1 : Memref sig .tc .vmem S2x16x256x128 .f32)
    (M2 : Memref sig .tc .vmem S3x3x128 .f32) (M3 : Memref sig .tc .vmem S128x128 .f32) (M4 : Memref sig .tc .vmem S1x2x256x128 .f32)
    (M5 : Memref sig .tc .vmem S2x16x256x128 .f32) {Q : PUnit → sProp 𝕄} :
    iprop(at_ c M1 (xblk m c t) ∗ at_ c M2 (kblk m c t) ∗ at_ c M3 (wblk m c t) ∗ at_ c M4 (bblk m c t) ∗ any (F := F) c M5 ∗ rowsAt m c t.val)
      ⊢ iprop((at_ c M1 (xblk m c t) ∗ at_ c M2 (kblk m c t) ∗ at_ c M3 (wblk m c t) ∗ at_ c M4 (bblk m c t) ∗ at_ c M5 (outAt m c t)
          ∗ rowsAt m c (t.val + 1) -∗ Q ⟨⟩) -∗ wpc c (convP (crd t) c h M1 M2 M3 M4 M5) Q) := by
  unfold convP rowsAt
  simp only [wpc, wp_bind]
  iintro ⟨Hx, Hk, Hw, Hb, ⟨%o, Ho⟩, Hcol, Hrow, Hstat, ⟨%ca, %hca, Hcar⟩⟩ HQ
  iapply (rd_all c statM) $$ Hstat
  iintro Hstat
  iapply (rd_all c M1) $$ Hx
  iintro Hx
  iapply (rd_step c colM) $$ Hcol
  iintro Hcol
  iapply (rd_step c colM) $$ Hcol
  iintro Hcol
  iapply (rd_all c rowM) $$ Hrow
  iintro Hrow
  iapply (rd_all c carM) $$ Hcar
  iintro Hcar
  iapply (rd_all c M4) $$ Hb
  iintro Hb
  iapply (rd_step c colM) $$ Hcol
  iintro Hcol
  iapply (rd_all c rowM) $$ Hrow
  iintro Hrow
  iapply (rd_all c M2) $$ Hk
  iintro Hk
  iapply (rd_all c M3) $$ Hw
  iintro Hw
  iapply (rd_all c M5) $$ Ho
  iintro Ho
  iapply (wr_all c M5) $$ Ho
  iintro Ho
  iapply (rd_step c colM) $$ Hcol
  iintro Hcol
  iapply (rd_all c carM) $$ Hcar
  iintro Hcar
  iapply (wr_all c carM) $$ Hcar
  iintro Hcar
  have ho : outOf (crd t) c (statOf m c) (xblk m c t) (cut (besC (crd t) h) (colH m c)) (cut topC (colH m c)) (cut (belC (crd t) h) (colH m c))
      (rowH m c) ca (bblk m c t) (kblk m c t) (wblk m c t) = outAt m c t := by
    rw [cut_bes, cut_top, cut_bel]
    show outWith m c t ca = _
    have h16 := (cond6_iff t).mp h
    by_cases e : t.val = 16
    · exact outWith_first m c t e ca
    · rw [hca (by omega)]; rfl
  have hc : carOf c (xblk m c t) (cut (lasC (crd t) h) (colH m c)) = carAt m c (t.val + 1) := by
    rw [cut_las]
    show _ = carOf c (xblk m c (pt t.val)) (colRow (lasRow t.val) (colH m c))
    rw [pt_val]
  simp only [Prog.pure_eq_ret, wp_ret]
  imodintro
  iapply HQ
  isplitl [Hx]; · iexact Hx
  isplitl [Hk]; · iexact Hk
  isplitl [Hw]; · iexact Hw
  isplitl [Hb]; · iexact Hb
  isplitl [Ho]; · iapply (Entails.of_eq (congrArg (at_ c M5) ho)); iexact Ho
  isplitl [Hcol]; · iexact Hcol
  isplitl [Hrow]; · iexact Hrow
  isplitl [Hstat]; · iexact Hstat
  iexists _; isplitr [Hcar]
  · ipureintro; exact fun _ => hc
  · iexact Hcar

end Cert.KernelIdeal.Run

end
-- ==== Proof.Body.lean ====
/-
  The kernel's body at a grid point, against the state of the device there: before the barrier, between the barrier and the
  exchange, after the exchange with the edge rows under way, with everything arrived.
-/
module

public import proofs.«01_k».proof.Proof.Rows

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Steps

variable {F : FTy → Type} [FloatOps F]

local notation "𝕄" => MT nD τ sig Unit (Elt F) ℕ UU ℕ

variable (m : (ℓ : Loc nD τ sig) → Buf (Elt F) ℓ)

/-! ## The state of a device between points -/

/-- What the barrier uses. -/
def barWires (c : Dev nD) : sProp 𝕄 :=
  iprop(atPos ER (barCell c) 0 ∅ 0 ∗ dutyTok ER (barCell (pX c)) 0 false ∗ dutyTok ER (barCell (pY c)) 0 true ∗ cred (tallyAt (barCell c) () 2))
/-- The buffers the exchange writes. -/
def fresh (c : Dev nD) : sProp 𝕄 :=
  iprop(any (F := F) c extM ∗ any (F := F) c sbM ∗ any (F := F) c sb2M ∗ any (F := F) c statM ∗ any (F := F) c carM)

/-- Before the first point. -/
def stStart (c : Dev nD) : sProp 𝕄 :=
  iprop(∃ K, recs m K c ∗ levAts L lv ∗ barWires (F := F) c ∗ wires (F := F) c ∗ rowWires (F := F) c ∗ fresh (F := F) c
    ∗ any (F := F) c colM ∗ any (F := F) c rowM ∗ any (F := F) c rxM ∗ any (F := F) c ryM ∗ any (F := F) c scolM ∗ any (F := F) c srowM ∗ any (F := F) c accM)
/-- After `n` row blocks, the barrier passed. -/
def stSums (c : Dev nD) (n : ℕ) : sProp 𝕄 :=
  iprop(∃ K, recs m K c ∗ levAts L lv ∗ semVal (barCell c) 0 ∗ lendX (F := F) (pX c) ∗ lendY (F := F) (pY c) ∗ wires (F := F) c ∗ rowWires (F := F) c
    ∗ fresh (F := F) c ∗ sumsAt m c n)
/-- The exchange done, the edge rows under way. -/
def stSent (c : Dev nD) : sProp 𝕄 :=
  iprop(∃ K, recs m K c ∗ levAts L lv ∗ semVal (barCell c) 0 ∗ zeros (F := F) c ∗ rowWires (F := F) c ∗ cred (tallyAt (dcell c 1) () (NN 1))
    ∗ at_ c colM (colH m c) ∗ at_ c statM (statOf m c) ∗ any (F := F) c carM ∗ spent (F := F) c)
/-- Everything arrived, at point `n`. -/
def stRows (c : Dev nD) (n : ℕ) : sProp 𝕄 :=
  iprop(semVal (barCell c) 0 ∗ zeros (F := F) c ∗ rowZeros (F := F) c ∗ rowsAt m c n ∗ any (F := F) c extM ∗ spent (F := F) c)

/-- The state before point `n`, and what the device owes there. -/
def St (c : Dev nD) (n : ℕ) : sProp 𝕄 :=
  if n = 0 then stStart m c else if n < 16 then stSums m c n else if n = 16 then stSent m c else stRows m c n
def owedAt (c : Dev nD) (n : ℕ) : CellTallies nD τ sig Unit := if n = 0 then O₀ c else if n < 16 then O4 c else 0

theorem St_start (c : Dev nD) : St m c 0 = stStart m c := rfl
theorem St_sums (c : Dev nD) (n : ℕ) (h : n ≠ 0) (h' : n < 16) : St m c n = stSums m c n := by unfold St; rw [if_neg h, if_pos h']
theorem St_sent (c : Dev nD) : St m c 16 = stSent m c := rfl
theorem St_rows (c : Dev nD) (n : ℕ) (h : 16 < n) : St m c n = stRows m c n := by
  unfold St; rw [if_neg (by omega), if_neg (by omega), if_neg (by omega)]
theorem owed_start (c : Dev nD) : owedAt c 0 = O₀ c := rfl
theorem owed_sums (c : Dev nD) (n : ℕ) (h : n ≠ 0) (h' : n < 16) : owedAt c n = O4 c := by unfold owedAt; rw [if_neg h, if_pos h']
theorem owed_done (c : Dev nD) (n : ℕ) (h : 16 ≤ n) : owedAt c n = 0 := by unfold owedAt; rw [if_neg (by omega), if_neg (by omega)]

section Point

variable (c : Dev nD) (t : Fin cfg0.N) (M1 : Memref sig .tc .vmem S2x16x256x128 .f32) (h1 : M1.IsWhole) (M2 : Memref sig .tc .vmem S3x3x128 .f32) (h2 : M2.IsWhole)
  (M3 : Memref sig .tc .vmem S128x128 .f32) (h3 : M3.IsWhole) (M4 : Memref sig .tc .vmem S1x2x256x128 .f32) (h4 : M4.IsWhole)
  (M5 : Memref sig .tc .vmem S2x16x256x128 .f32) (h5 : M5.IsWhole)

/-- The device's own number is read, then the phases run. -/
theorem wpc_device {α : Type} (k : Dev nD → P (F := F) α) {Q : α → sProp 𝕄} :
    wpc c (Prog.lift .deviceId >>= k) Q = wpc c (k c) Q := by
  simp only [wpc, Prog.lift, Prog.bind_op, Prog.bind_ret, wp_deviceId]

theorem wpc_bind {α β : Type} (p : P (F := F) α) (k : α → P (F := F) β) {Q : β → sProp 𝕄} :
    wpc c (p >>= k) Q = wpc c p (fun a => wpc c (k a) Q) := by
  simp only [wpc, wp_bind]

theorem run_first (ht : t.val = 0) {Q : PUnit → sProp 𝕄} :
    iprop(at_ c M1 (xblk m c t) ∗ stStart m c ∗ due (F := F) c (O₀ c))
      ⊢ iprop((at_ c M1 (xblk m c t) ∗ stSums m c 1 ∗ due c (O4 c) -∗ Q ⟨⟩) -∗ wpc c (bodyP (F := F) (crd t) M1 h1 M2 h2 M3 h3 M4 h4 M5 h5) Q) := by
  have c1 : k0_cond1 (crd t) = 1#1 := (cond1_iff t).mpr ht
  have c2 : k0_cond2 (crd t) = 1#1 := (cond2_iff t).mpr (by omega)
  have c4 : ¬ k0_cond4 (crd t) = 1#1 := fun h => by have := (cond4_iff t).mp h; omega
  have c5 : ¬ cond5 (crd t) = 1#1 := fun h => by have := (cond5_iff t).mp h; omega
  have c6 : ¬ k0_cond6 (crd t) = 1#1 := fun h => by have := (cond6_iff t).mp h; omega
  rw [body_first (crd t) M1 h1 M2 h2 M3 h3 M4 h4 M5 h5 c1 c2 c4 c5 c6, wpc_device, wpc_bind]
  unfold stStart barWires
  iintro ⟨Hx, ⟨%K, #HR, #Hlev, ⟨Hat, HtX, HtY, Hc⟩, Hw, Hrw, Hfr, Hcol, Hrow, Hrx, Hry, ⟨%f, Hscol⟩, ⟨%g, Hsrow⟩, Hacc⟩, HO⟩ HQ
  iapply (barrier_run m K c (crd t) c1) $$ [Hat HtX HtY Hc HO Hrx Hrow Hry Hcol Hacc]
  · isplitr; · iexact HR
    isplitr; · iexact Hlev
    isplitl [Hat]; · iexact Hat
    isplitl [HtX]; · iexact HtX
    isplitl [HtY]; · iexact HtY
    isplitl [Hc]; · iexact Hc
    isplitl [HO]; · iexact HO
    isplitl [Hrx]; · iexact Hrx
    isplitl [Hrow]; · iexact Hrow
    isplitl [Hry]; · iexact Hry
    isplitl [Hcol]; · iexact Hcol
    iexact Hacc
  iintro ⟨HO, Hz, HX, HY, Hacc⟩
  iapply (accum_run m c t c2 M1) $$ [Hx Hacc Hscol Hsrow]
  · isplitl [Hx]; · iexact Hx
    rw [ht]; unfold sumsAt
    isplitl [Hacc]; · iexact Hacc
    isplitl [Hscol]
    · iexists f; isplitr [Hscol]
      · ipureintro; exact colUpTo_zero m c f
      · iexact Hscol
    · iexists g; isplitr [Hsrow]
      · ipureintro; exact rowFrom_zero m c g
      · iexact Hsrow
  rw [ht, Nat.zero_add]
  iintro ⟨Hx, Hs⟩
  iapply HQ
  isplitl [Hx]; · iexact Hx
  isplitr [HO]
  · unfold stSums
    iexists K
    isplitr; · iexact HR
    isplitr; · iexact Hlev
    isplitl [Hz]; · iexact Hz
    isplitl [HX]; · iexact HX
    isplitl [HY]; · iexact HY
    isplitl [Hw]; · iexact Hw
    isplitl [Hrw]; · iexact Hrw
    isplitl [Hfr]; · iexact Hfr
    iexact Hs
  iexact HO

theorem run_sums (ht : t.val ≠ 0) (ht' : t.val < 15) {Q : PUnit → sProp 𝕄} :
    iprop(at_ c M1 (xblk m c t) ∗ stSums m c t.val)
      ⊢ iprop((at_ c M1 (xblk m c t) ∗ stSums m c (t.val + 1) -∗ Q ⟨⟩) -∗ wpc c (bodyP (F := F) (crd t) M1 h1 M2 h2 M3 h3 M4 h4 M5 h5) Q) := by
  have c1 : ¬ k0_cond1 (crd t) = 1#1 := fun h => ht ((cond1_iff t).mp h)
  have c2 : k0_cond2 (crd t) = 1#1 := (cond2_iff t).mpr (by omega)
  have c4 : ¬ k0_cond4 (crd t) = 1#1 := fun h => by have := (cond4_iff t).mp h; omega
  have c5 : ¬ cond5 (crd t) = 1#1 := fun h => by have := (cond5_iff t).mp h; omega
  have c6 : ¬ k0_cond6 (crd t) = 1#1 := fun h => by have := (cond6_iff t).mp h; omega
  rw [body_acc (crd t) M1 h1 M2 h2 M3 h3 M4 h4 M5 h5 c1 c2 c4 c5 c6, wpc_device]
  unfold stSums
  iintro ⟨Hx, ⟨%K, #HR, #Hlev, Hz, HX, HY, Hw, Hrw, Hfr, Hs⟩⟩ HQ
  iapply (accum_run m c t c2 M1) $$ [Hx Hs]
  · isplitl [Hx]; · iexact Hx
    iexact Hs
  iintro ⟨Hx, Hs⟩
  iapply HQ
  isplitl [Hx]; · iexact Hx
  iexists K
  isplitr; · iexact HR
  isplitr; · iexact Hlev
  isplitl [Hz]; · iexact Hz
  isplitl [HX]; · iexact HX
  isplitl [HY]; · iexact HY
  isplitl [Hw]; · iexact Hw
  isplitl [Hrw]; · iexact Hrw
  isplitl [Hfr]; · iexact Hfr
  iexact Hs

theorem run_exch (ht : t.val = 15) {Q : PUnit → sProp 𝕄} :
    iprop(at_ c M1 (xblk m c t) ∗ stSums m c 15 ∗ due (F := F) c (O4 c))
      ⊢ iprop((at_ c M1 (xblk m c t) ∗ stSent m c ∗ due c 0 -∗ Q ⟨⟩) -∗ wpc c (bodyP (F := F) (crd t) M1 h1 M2 h2 M3 h3 M4 h4 M5 h5) Q) := by
  have c1 : ¬ k0_cond1 (crd t) = 1#1 := fun h => by have := (cond1_iff t).mp h; omega
  have c2 : k0_cond2 (crd t) = 1#1 := (cond2_iff t).mpr (by omega)
  have c4 : k0_cond4 (crd t) = 1#1 := (cond4_iff t).mpr ht
  have c5 : ¬ cond5 (crd t) = 1#1 := fun h => by have := (cond5_iff t).mp h; omega
  have c6 : ¬ k0_cond6 (crd t) = 1#1 := fun h => by have := (cond6_iff t).mp h; omega
  rw [body_exch (crd t) M1 h1 M2 h2 M3 h3 M4 h4 M5 h5 c1 c2 c4 c5 c6, wpc_device, wpc_bind]
  unfold stSums fresh
  iintro ⟨Hx, ⟨%K, #HR, #Hlev, Hz, HX, HY, Hw, Hrw, ⟨Hext, Hsb, Hsb2, Hstat, Hcar⟩, Hs⟩, HO⟩ HQ
  iapply (accum_run m c t c2 M1) $$ [Hx Hs]
  · isplitl [Hx]; · iexact Hx
    rw [ht]; iexact Hs
  rw [ht]; unfold sumsAt
  iintro ⟨Hx, Hacc, ⟨%f, %hf, Hscol⟩, ⟨%g, %hg, Hsrow⟩⟩
  rw [colUpTo_all m c hf, rowFrom_all m c hg]
  iapply (exch_run m K c (crd t) c4) $$ [Hw HX HY HO Hscol Hsrow Hacc Hsb Hsb2 Hstat Hext]
  · isplitr; · iexact HR
    isplitr; · iexact Hlev
    isplitl [Hw]; · iexact Hw
    isplitl [HX]; · iexact HX
    isplitl [HY]; · iexact HY
    isplitl [HO]; · iexact HO
    isplitl [Hscol]; · iexact Hscol
    isplitl [Hsrow]; · iexact Hsrow
    isplitl [Hacc]; · iexact Hacc
    isplitl [Hsb]; · iexact Hsb
    isplitl [Hsb2]; · iexact Hsb2
    isplitl [Hstat]; · iexact Hstat
    iexact Hext
  iintro ⟨HO, Hzs, Hc1, Hcol, Hstat, Hsp⟩
  iapply HQ
  isplitl [Hx]; · iexact Hx
  isplitr [HO]
  · unfold stSent
    iexists K
    isplitr; · iexact HR
    isplitr; · iexact Hlev
    isplitl [Hz]; · iexact Hz
    isplitl [Hzs]; · iexact Hzs
    isplitl [Hrw]; · iexact Hrw
    isplitl [Hc1]; · iexact Hc1
    isplitl [Hcol]; · iexact Hcol
    isplitl [Hstat]; · iexact Hstat
    isplitl [Hcar]; · iexact Hcar
    iexact Hsp
  iexact HO

/-- What the windows hold before a late point, and after it. -/
def winsPre : sProp 𝕄 :=
  iprop(at_ c M1 (xblk m c t) ∗ at_ c M2 (kblk m c t) ∗ at_ c M3 (wblk m c t) ∗ at_ c M4 (bblk m c t) ∗ any (F := F) c M5)
def winsPost : sProp 𝕄 :=
  iprop(at_ c M1 (xblk m c t) ∗ at_ c M2 (kblk m c t) ∗ at_ c M3 (wblk m c t) ∗ at_ c M4 (bblk m c t) ∗ at_ c M5 (outAt m c t))

theorem run_wait (ht : t.val = 16) {Q : PUnit → sProp 𝕄} :
    iprop(winsPre m c t M1 M2 M3 M4 M5 ∗ stSent m c ∗ due (F := F) c 0)
      ⊢ iprop((winsPost m c t M1 M2 M3 M4 M5 ∗ stRows m c 17 ∗ due c 0 -∗ Q ⟨⟩) -∗ wpc c (bodyP (F := F) (crd t) M1 h1 M2 h2 M3 h3 M4 h4 M5 h5) Q) := by
  have c1 : ¬ k0_cond1 (crd t) = 1#1 := fun h => by have := (cond1_iff t).mp h; omega
  have c2 : ¬ k0_cond2 (crd t) = 1#1 := fun h => by have := (cond2_iff t).mp h; omega
  have c4 : ¬ k0_cond4 (crd t) = 1#1 := fun h => by have := (cond4_iff t).mp h; omega
  have c5 : cond5 (crd t) = 1#1 := (cond5_iff t).mpr ht
  have c6 : k0_cond6 (crd t) = 1#1 := (cond6_iff t).mpr (by omega)
  rw [body_wait (crd t) M1 h1 M2 h2 M3 h3 M4 h4 M5 h5 c1 c2 c4 c5 c6, wpc_device, wpc_bind]
  unfold stSent winsPre winsPost
  iintro ⟨⟨Hx, Hk, Hw, Hb, Ho⟩, ⟨%K, #HR, #Hlev, Hz, Hzs, Hrw, Hc1, Hcol, Hstat, ⟨%ca, Hcar⟩, Hsp⟩, HO⟩ HQ
  iapply (rowWait_run m K c) $$ [Hrw Hc1 HO]
  · isplitr; · iexact HR
    isplitr; · iexact Hlev
    isplitl [Hrw]; · iexact Hrw
    isplitl [Hc1]; · iexact Hc1
    iexact HO
  iintro ⟨HO, Hrz, Hext, Hrow⟩
  iapply (conv_run m c t c6 M1 M2 M3 M4 M5) $$ [Hx Hk Hw Hb Ho Hcol Hrow Hstat Hcar]
  · isplitl [Hx]; · iexact Hx
    isplitl [Hk]; · iexact Hk
    isplitl [Hw]; · iexact Hw
    isplitl [Hb]; · iexact Hb
    isplitl [Ho]; · iexact Ho
    unfold rowsAt
    isplitl [Hcol]; · iexact Hcol
    isplitl [Hrow]; · iexact Hrow
    isplitl [Hstat]; · iexact Hstat
    iexists ca; isplitr [Hcar]
    · ipureintro; exact fun h => by omega
    · iexact Hcar
  rw [ht]
  iintro ⟨Hx, Hk, Hw, Hb, Ho, Hr⟩
  iapply HQ
  isplitl [Hx Hk Hw Hb Ho]
  · isplitl [Hx]; · iexact Hx
    isplitl [Hk]; · iexact Hk
    isplitl [Hw]; · iexact Hw
    isplitl [Hb]; · iexact Hb
    iexact Ho
  isplitr [HO]
  · unfold stRows
    isplitl [Hz]; · iexact Hz
    isplitl [Hzs]; · iexact Hzs
    isplitl [Hrz]; · iexact Hrz
    isplitl [Hr]; · iexact Hr
    isplitl [Hext]; · iexists _; iexact Hext
    iexact Hsp
  iexact HO

theorem run_rows (ht : 16 < t.val) {Q : PUnit → sProp 𝕄} :
    iprop(winsPre m c t M1 M2 M3 M4 M5 ∗ stRows m c t.val)
      ⊢ iprop((winsPost m c t M1 M2 M3 M4 M5 ∗ stRows m c (t.val + 1) -∗ Q ⟨⟩) -∗ wpc c (bodyP (F := F) (crd t) M1 h1 M2 h2 M3 h3 M4 h4 M5 h5) Q) := by
  have c1 : ¬ k0_cond1 (crd t) = 1#1 := fun h => by have := (cond1_iff t).mp h; omega
  have c2 : ¬ k0_cond2 (crd t) = 1#1 := fun h => by have := (cond2_iff t).mp h; omega
  have c4 : ¬ k0_cond4 (crd t) = 1#1 := fun h => by have := (cond4_iff t).mp h; omega
  have c5 : ¬ cond5 (crd t) = 1#1 := fun h => by have := (cond5_iff t).mp h; omega
  have c6 : k0_cond6 (crd t) = 1#1 := (cond6_iff t).mpr (by omega)
  rw [body_conv (crd t) M1 h1 M2 h2 M3 h3 M4 h4 M5 h5 c1 c2 c4 c5 c6, wpc_device]
  unfold stRows winsPre winsPost
  iintro ⟨⟨Hx, Hk, Hw, Hb, Ho⟩, ⟨Hz, Hzs, Hrz, Hr, Hext, Hsp⟩⟩ HQ
  iapply (conv_run m c t c6 M1 M2 M3 M4 M5) $$ [Hx Hk Hw Hb Ho Hr]
  · isplitl [Hx]; · iexact Hx
    isplitl [Hk]; · iexact Hk
    isplitl [Hw]; · iexact Hw
    isplitl [Hb]; · iexact Hb
    isplitl [Ho]; · iexact Ho
    iexact Hr
  iintro ⟨Hx, Hk, Hw, Hb, Ho, Hr⟩
  iapply HQ
  isplitl [Hx Hk Hw Hb Ho]
  · isplitl [Hx]; · iexact Hx
    isplitl [Hk]; · iexact Hk
    isplitl [Hw]; · iexact Hw
    isplitl [Hb]; · iexact Hb
    iexact Ho
  isplitl [Hz]; · iexact Hz
  isplitl [Hzs]; · iexact Hzs
  isplitl [Hrz]; · iexact Hrz
  isplitl [Hr]; · iexact Hr
  isplitl [Hext]; · iexact Hext
  iexact Hsp

/-- An early point: only window 0 is read. -/
theorem run_early (ht : t.val < 16) {Q : PUnit → sProp 𝕄} :
    iprop(at_ c M1 (xblk m c t) ∗ St m c t.val ∗ due (F := F) c (owedAt c t.val))
      ⊢ iprop((at_ c M1 (xblk m c t) ∗ St m c (t.val + 1) ∗ due c (owedAt c (t.val + 1)) -∗ Q ⟨⟩)
        -∗ wpc c (bodyP (F := F) (crd t) M1 h1 M2 h2 M3 h3 M4 h4 M5 h5) Q) := by
  by_cases h0 : t.val = 0
  · rw [show t.val + 1 = 1 by omega, h0, St_start, owed_start, St_sums m c 1 (by omega) (by omega), owed_sums c 1 (by omega) (by omega)]
    exact run_first m c t M1 h1 M2 h2 M3 h3 M4 h4 M5 h5 h0
  by_cases h15 : t.val = 15
  · rw [show t.val + 1 = 16 by omega, h15, St_sent, owed_done c 16 (by omega), St_sums m c 15 (by omega) (by omega), owed_sums c 15 (by omega) (by omega)]
    exact run_exch m c t M1 h1 M2 h2 M3 h3 M4 h4 M5 h5 h15
  · rw [St_sums m c _ h0 ht, St_sums m c _ (Nat.succ_ne_zero _) (by omega), owed_sums c _ h0 ht, owed_sums c _ (Nat.succ_ne_zero _) (by omega)]
    iintro ⟨Hx, Hs, HO⟩ HQ
    iapply (run_sums m c t M1 h1 M2 h2 M3 h3 M4 h4 M5 h5 h0 (by omega)) $$ [Hx Hs]
    · isplitl [Hx]; · iexact Hx
      iexact Hs
    iintro ⟨Hx, Hs⟩
    iapply HQ
    isplitl [Hx]; · iexact Hx
    isplitl [Hs]; · iexact Hs
    iexact HO

/-- A late point. -/
theorem run_late (ht : 16 ≤ t.val) {Q : PUnit → sProp 𝕄} :
    iprop(winsPre m c t M1 M2 M3 M4 M5 ∗ St m c t.val ∗ due (F := F) c (owedAt c t.val))
      ⊢ iprop((winsPost m c t M1 M2 M3 M4 M5 ∗ St m c (t.val + 1) ∗ due c (owedAt c (t.val + 1)) -∗ Q ⟨⟩)
        -∗ wpc c (bodyP (F := F) (crd t) M1 h1 M2 h2 M3 h3 M4 h4 M5 h5) Q) := by
  rw [owed_done c _ ht, owed_done c (t.val + 1) (by omega), St_rows m c (t.val + 1) (by omega)]
  by_cases h16 : t.val = 16
  · rw [show t.val + 1 = 17 by omega, h16, St_sent]
    exact run_wait m c t M1 h1 M2 h2 M3 h3 M4 h4 M5 h5 h16
  · rw [St_rows m c _ (by omega)]
    iintro ⟨Hx, Hs, HO⟩ HQ
    iapply (run_rows m c t M1 h1 M2 h2 M3 h3 M4 h4 M5 h5 (by omega)) $$ [Hx Hs]
    · isplitl [Hx]; · iexact Hx
      iexact Hs
    iintro ⟨Hx, Hs⟩
    iapply HQ
    isplitl [Hx]; · iexact Hx
    isplitl [Hs]; · iexact Hs
    iexact HO

end Point

end Cert.KernelIdeal.Run

end
-- ==== Proof.Region.lean ====
/-
  The call as a segment of `main`: what the pipeline holds at every point, the body there, the kernel's eight counters opened at
  the entry and handed back at zero.
-/
module

public import proofs.«01_k».proof.Proof.Body
public import Idealize.ShloMosaic.Lib.Pipeline.RegionTalk
public import Idealize.ShloMosaic.Lib.Pipeline.RegionArraysS

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen Cert.Steps

variable {F : FTy → Type} [FloatOps F]

local notation "𝕄" => MT nD τ sig Unit (Elt F) ℕ UU ℕ

variable (m : (ℓ : Loc nD τ sig) → Buf (Elt F) ℓ)

/-! ## What the pipeline holds -/

/-- The windows: the four inputs keep their blocks, window 4 is left at the point's result. -/
def dat0 (c : Dev nD) : Dat τ (Elt F) Unit ℕ UU ℕ cfg0 c where
  A w := V m c (Pipeline.arrRef spec0 w)
  after
    | 0 => fun t => iblk m c 0 t
    | 1 => fun t => iblk m c 1 t
    | 2 => fun t => iblk m c 2 t
    | 3 => fun t => iblk m c 3 t
    | 4 => fun t => outAt m c t
  Φ t := iprop(St m c t.val ∗ ∃ r, prngReg c r)
  q _ := fullShare
  owed t := owedAt c t.val

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

section Before

variable (c : Dev nD) (t : Fin cfg0.N)

theorem before_0 (d) : (dat0 m c).before 0 t d = xblk m c t :=
  ((dat0 m c).before_in_eq_fetched 0 rfl (fun _ => rfl) (fun _ _ _ => rfl) (fun _ => rfl) t d).trans rfl
theorem before_1 (d) : (dat0 m c).before 1 t d = kblk m c t :=
  ((dat0 m c).before_in_eq_fetched 1 rfl (fun _ => rfl) (fun _ _ _ => rfl) (fun _ => rfl) t d).trans rfl
theorem before_2 (d) : (dat0 m c).before 2 t d = wblk m c t :=
  ((dat0 m c).before_in_eq_fetched 2 rfl (fun _ => rfl) (fun _ _ _ => rfl) (fun _ => rfl) t d).trans rfl
theorem before_3 (d) : (dat0 m c).before 3 t d = bblk m c t :=
  ((dat0 m c).before_in_eq_fetched 3 rfl (fun _ => rfl) (fun _ _ _ => rfl) (fun _ => rfl) t d).trans rfl

/-- Window 4 is idle up to point 15, where it is not written back either; at no later point. -/
theorem idle_early : ∀ t : Fin cfg0.N, t.val < 16 → idle0 4 (grid0.coords t) = true ∧ (win0 4).flush t = false :=
  (by decide +kernel : ∀ t : Fin grid0.N, t.val < 16 → idle0 4 (grid0.coords t) = true ∧ win0_4.flush t = false)
theorem idle_late : ∀ t : Fin cfg0.N, 16 ≤ t.val → idle0 4 (grid0.coords t) = false :=
  (by decide +kernel : ∀ t : Fin grid0.N, 16 ≤ t.val → idle0 4 (grid0.coords t) = false)

theorem owes_intro (s : Fin (cfg0.N + 1)) : due (F := F) c (owedAt c s.val) ⊢ (dat0 m c).owesAt () s := by
  unfold due Dat.owesAt Pipeline.owesWithin Dat.bound
  iintro ⟨%W, HO⟩; iexists W; isplitr
  · ipureintro; exact fun _ _ => Or.inl trivial
  · iexact HO
theorem owes_elim (s : Fin (cfg0.N + 1)) : (dat0 m c).owesAt () s ⊢ due (F := F) c (owedAt c s.val) := by
  unfold due Dat.owesAt Pipeline.owesWithin
  iintro ⟨%W, -, HO⟩; iexists W; iexact HO

end Before

set_option maxHeartbeats 1600000 in
/-- The body at every point. -/
theorem body (c : Dev nD) : BodyObligation (dat0 m c) (defs₀ (F := F)) 𝒱₀ () Set.univ := fun t => by
  rw [bigSep_W0, bigSep_W0]
  dsimp only
  simp only [before_0, before_1, before_2, before_3]
  rw [show (dat0 m c).Φ t.castSucc = iprop(St m c t.val ∗ ∃ r, prngReg c r) from rfl,
    show (dat0 m c).Φ t.succ = iprop(St m c (t.val + 1) ∗ ∃ r, prngReg c r) from rfl]
  have hout : due (F := F) c (owedAt c (t.val + 1)) ⊢ (dat0 m c).owesAt () t.succ := owes_intro m c t.succ
  have hin : (dat0 m c).owesAt () t.castSucc ⊢ due (F := F) c (owedAt c t.val) := owes_elim m c t.castSucc
  rw [show (dat0 m c).after 0 t = xblk m c t from rfl, show (dat0 m c).after 1 t = kblk m c t from rfl, show (dat0 m c).after 2 t = wblk m c t from rfl,
    show (dat0 m c).after 3 t = bblk m c t from rfl, show (dat0 m c).after 4 t = outAt m c t from rfl]
  by_cases ht : t.val < 16
  · obtain ⟨e1, e2⟩ := idle_early t ht
    rw [e1, e2]
    dsimp only
    have hrun := fun Q => run_early (F := F) m c t _ (hstage0_0 ((cfg0.slots t 0).cast nbuf0_0)) _ (hstage0_1 ((cfg0.slots t 1).cast nbuf0_1)) _
      (hstage0_2 ((cfg0.slots t 2).cast nbuf0_2)) _ (hstage0_3 ((cfg0.slots t 3).cast nbuf0_3)) _ (hstage0_4 ((cfg0.slots t 4).cast nbuf0_4)) ht (Q := Q)
    iintro ⟨⟨Hs, Hp⟩, HO, ⟨%d0, H0⟩, ⟨%d1, H1⟩, ⟨%d2, H2⟩, ⟨%d3, H3⟩, H4⟩
    ihave HO := hin $$ HO
    iapply (hrun _) $$ [Hs HO H0]
    · isplitl [H0]; · iexact H0
      isplitl [Hs]; · iexact Hs
      iexact HO
    iintro ⟨H0, Hs, HO⟩
    isplitl [Hs Hp]
    · isplitl [Hs]; · iexact Hs
      iexact Hp
    isplitl [HO]; · iapply hout; iexact HO
    isplitl [H0]; · iexact H0
    isplitl [H1]; · iexact H1
    isplitl [H2]; · iexact H2
    isplitl [H3]; · iexact H3
    iexact H4
  · rw [idle_late t (by omega)]
    dsimp only
    have hrun := fun Q => run_late (F := F) m c t _ (hstage0_0 ((cfg0.slots t 0).cast nbuf0_0)) _ (hstage0_1 ((cfg0.slots t 1).cast nbuf0_1)) _
      (hstage0_2 ((cfg0.slots t 2).cast nbuf0_2)) _ (hstage0_3 ((cfg0.slots t 3).cast nbuf0_3)) _ (hstage0_4 ((cfg0.slots t 4).cast nbuf0_4)) (by omega) (Q := Q)
    unfold winsPre winsPost at hrun
    iintro ⟨⟨Hs, Hp⟩, HO, ⟨%d0, H0⟩, ⟨%d1, H1⟩, ⟨%d2, H2⟩, ⟨%d3, H3⟩, ⟨%d4, H4⟩⟩
    ihave HO := hin $$ HO
    iapply (hrun _) $$ [Hs HO H0 H1 H2 H3 H4]
    · isplitl [H0 H1 H2 H3 H4]
      · isplitl [H0]; · iexact H0
        isplitl [H1]; · iexact H1
        isplitl [H2]; · iexact H2
        isplitl [H3]; · iexact H3
        iexists _; iexact H4
      isplitl [Hs]; · iexact Hs
      iexact HO
    iintro ⟨⟨H0, H1, H2, H3, H4⟩, Hs, HO⟩
    isplitl [Hs Hp]
    · isplitl [Hs]; · iexact Hs
      iexact Hp
    isplitl [HO]; · iapply hout; iexact HO
    isplitl [H0]; · iexact H0
    isplitl [H1]; · iexact H1
    isplitl [H2]; · iexact H2
    isplitl [H3]; · iexact H3
    iexact H4

end Cert.KernelIdeal.Run

end
-- ==== Proof.Talk.lean ====
/-
  The call as a segment of `main`: the kernel's eight counters opened at the entry and handed back at zero, the scratches in and out.
-/
module

public import proofs.«01_k».proof.Proof.Region

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen Cert.Steps

variable {F : FTy → Type} [FloatOps F]

local notation "𝕄" => MT nD τ sig Unit (Elt F) ℕ UU ℕ

variable (m : (ℓ : Loc nD τ sig) → Buf (Elt F) ℓ)

/-! ## The kernel's own counters -/

/-- The kernel's own DMA counters. -/
def osem (k : Fin 8) : SemLoc sig := .dma (dsem k)

theorem bigSep_fin8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Two families of assertions, and one of pairs. -/
theorem zipped {I : Type} [Fintype I] {Φ Ψ : I → sProp 𝕄} :
    iprop(bigSep Finset.univ Φ ∗ bigSep Finset.univ Ψ) ⊢ bigSep Finset.univ (fun x => iprop(Φ x ∗ Ψ x)) := Entails.of_eq (bigSep_sep _ _ _).symm
theorem unzipped {I : Type} [Fintype I] {Φ Ψ : I → sProp 𝕄} :
    bigSep Finset.univ (fun x => iprop(Φ x ∗ Ψ x)) ⊢ iprop(bigSep Finset.univ Φ ∗ bigSep Finset.univ Ψ) := Entails.of_eq (bigSep_sep _ _ _)

/-- The tokens of the duties device `c` pays on the copies' cells, its own and its peers'. -/
def copyToks (c : Dev nD) : sProp 𝕄 :=
  iprop((dutyTok ER (dcell c 0) 0 false ∗ dutyTok ER (dcell c 1) 0 false ∗ dutyTok ER (dcell c 4) 0 false ∗ dutyTok ER (dcell c 5) 0 false)
    ∗ (dutyTok ER (dcell (pY c) 2) 0 false ∗ dutyTok ER (dcell (pX c) 3) 0 false ∗ dutyTok ER (dcell (pX c) 6) 0 false
      ∗ dutyTok ER (dcell (pY c) 7) 0 false))
/-- What device `c` may wait for at launch. -/
def copyCreds (c : Dev nD) : sProp 𝕄 :=
  iprop(cred (tallyAt (dcell c 2) () (NN 2)) ∗ cred (tallyAt (dcell c 3) () (NN 3)) ∗ cred (tallyAt (dcell c 6) () (NN 6)) ∗ cred (tallyAt (dcell c 7) () (NN 7)))
def rights (c : Dev nD) : sProp 𝕄 := bigSep Finset.univ fun k : Fin 8 => openTok ER (dcell c k)

def Tk (c : Dev nD) : sProp 𝕄 := iprop(∃ K, invs m K ∗ rights (F := F) c ∗ barWires (F := F) c ∗ copyToks (F := F) c ∗ copyCreds (F := F) c)
def Xk (c : Dev nD) : sProp 𝕄 := iprop(∃ K, recs m K c ∗ levAts L lv ∗ barWires (F := F) c ∗ wires (F := F) c ∗ rowWires (F := F) c)
def Yk (c : Dev nD) : sProp 𝕄 := semVal (barCell c) 0

theorem open_one (K : GSem nD τ sig → ℕ) (c : Dev nD) (k : Fin 8) :
    iprop(invs m K ∗ (openTok ER (dcell c k) ∗ semVal (dcell c k) 0)) ⊢ |={Set.univ}=> (iprop(atPos ER (dcell c k) 0 ∅ 0 ∗ reached ER (dcell c k) 0) : sProp 𝕄) := by
  have h : (bigSep (barCells ∪ dCells) fun g => cellInv ER (Rd m) (K g) g) ⊢ ((fun g => cellInv ER (Rd m) (K g) g) (dcell c k)) :=
    bigSep_elim (Finset.mem_union_right barCells (mem_d c k))
  refine BIBase.Entails.trans ?_ (Rounds.cell_open ER (Rd m) (g := dcell c k) (Set.mem_univ (K (dcell c k))))
  unfold invs
  iintro ⟨⟨HI, -⟩, Ho, Hs⟩
  isplitl [HI]; · iapply h; iexact HI
  isplitl [Ho] <;> iassumption

theorem hopen (c : Dev nD) : iprop(Tk m c ∗ Pipeline.ownSems0 osem c ∗ levAts L lv) ⊢ (|={Set.univ}=> Xk m c : sProp 𝕄) := by
  have hs : (Pipeline.ownSems0 osem c : sProp 𝕄) = bigSep Finset.univ fun k : Fin 8 => semVal (dcell c k) 0 := rfl
  rw [hs]
  unfold Tk Xk rights copyToks copyCreds wires rowWires
  iintro ⟨⟨%K, #HI, Ho, Hb, Ht, Hc⟩, Hs, #Hlev⟩
  have hall : iprop(invs m K ∗ bigSep Finset.univ fun k : Fin 8 => iprop(openTok ER (dcell c k) ∗ semVal (dcell c k) 0))
      ⊢ |={Set.univ}=> (bigSep Finset.univ fun k : Fin 8 => iprop(atPos ER (dcell c k) 0 ∅ 0 ∗ reached ER (dcell c k) 0) : sProp 𝕄) :=
    BIBase.Entails.trans (bigSep_with_persistent (R := invs m K) fun k _ => open_one m K c k) (bigSep_fupd _ _)
  imod hall $$ [Ho Hs] with Hr
  · isplitr; · iexact HI
    iapply zipped
    isplitl [Ho]; · iexact Ho
    iexact Hs
  ihave Hr2 := unzipped $$ Hr
  icases Hr2 with ⟨Hat, #Hre⟩
  imodintro
  ihave Hat := (Entails.of_eq (bigSep_fin8 (fun k : Fin 8 => (atPos ER (dcell c k) 0 ∅ 0 : sProp 𝕄)))) $$ Hat
  icases Hat with ⟨Ha0, Ha1, Ha2, Ha3, Ha4, Ha5, Ha6, Ha7⟩
  icases Ht with ⟨Ht1, Ht2⟩
  icases Hc with ⟨Hc2, Hc3, Hc6, Hc7⟩
  iexists K
  isplitr
  · unfold recs
    isplitr; · iexact HI
    iexact Hre
  isplitr; · iexact Hlev
  isplitl [Hb]; · iexact Hb
  isplitr [Ha1 Ha3 Hc3]
  · isplitl [Ha0 Ha2 Ha4 Ha5 Ha6 Ha7]
    · isplitl [Ha0]; · iexact Ha0
      isplitl [Ha2]; · iexact Ha2
      isplitl [Ha4]; · iexact Ha4
      isplitl [Ha5]; · iexact Ha5
      isplitl [Ha6]; · iexact Ha6
      iexact Ha7
    isplitl [Ht1]; · iexact Ht1
    isplitl [Ht2]; · iexact Ht2
    isplitl [Hc2]; · iexact Hc2
    isplitl [Hc6]; · iexact Hc6
    iexact Hc7
  isplitl [Ha1]; · iexact Ha1
  isplitl [Ha3]; · iexact Ha3
  iexact Hc3

/-! ## The scratches -/

theorem any_in {s : Shape} (M : Memref sig .tc .vmem s .f32) (h : M.view.set = Finset.univ) (c : Dev nD) :
    iprop(∃ f : Buf (Elt F) (M.view.loc (c : Thread nD τ)), (M.view.loc (c : Thread nD τ)) ↦{fullShare} f) ⊢ (any (F := F) c M : sProp 𝕄) := by
  iintro ⟨%f, H⟩
  iexists _
  have e := owns_intro (Ix := Unit) (Name := ℕ) (U := UU) (Lvl := ℕ) (c : Thread nD τ) M fullShare f
  rw [h] at e
  iapply e; iexact H
theorem any_out {s : Shape} (M : Memref sig .tc .vmem s .f32) (h : M.view.set = Finset.univ) (c : Dev nD) :
    (any (F := F) c M : sProp 𝕄) ⊢ iprop(∃ f : Buf (Elt F) (M.view.loc (c : Thread nD τ)), (M.view.loc (c : Thread nD τ)) ↦{fullShare} f) := by
  iintro ⟨%X, H⟩
  iexists (M.view.rep X)
  have e := Entails.of_eq (owns_eq_rep (Ix := Unit) (Name := ℕ) (U := UU) (Lvl := ℕ) (c : Thread nD τ) M fullShare X)
  rw [h] at e
  iapply e; iexact H

def allAny (c : Dev nD) : sProp 𝕄 :=
  iprop(any (F := F) c colM ∗ any (F := F) c rowM ∗ any (F := F) c scolM ∗ any (F := F) c srowM ∗ any (F := F) c extM ∗ any (F := F) c accM
    ∗ any (F := F) c sbM ∗ any (F := F) c rxM ∗ any (F := F) c sb2M ∗ any (F := F) c ryM ∗ any (F := F) c statM ∗ any (F := F) c carM)

theorem rest_in (c : Dev nD) : (Pipeline.scopedRest (Ix := Unit) (Name := ℕ) (U := UU) (Lvl := ℕ) (Val := Elt F) spec0 c : sProp 𝕄) ⊢ allAny (F := F) c := by
  rw [scopedRest0_eq]; unfold allAny
  iintro ⟨H0, H1, H2, H3, H4, H5, H6, H7, H8, H9, H10, H11⟩
  isplitl [H0]; · iapply (any_in colM (View.set_whole _) c); iexact H0
  isplitl [H1]; · iapply (any_in rowM (View.set_whole _) c); iexact H1
  isplitl [H2]; · iapply (any_in scolM (View.set_whole _) c); iexact H2
  isplitl [H3]; · iapply (any_in srowM (View.set_whole _) c); iexact H3
  isplitl [H4]; · iapply (any_in extM (View.set_whole _) c); iexact H4
  isplitl [H5]; · iapply (any_in accM (View.set_whole _) c); iexact H5
  isplitl [H6]; · iapply (any_in sbM (View.set_whole _) c); iexact H6
  isplitl [H7]; · iapply (any_in rxM (View.set_whole _) c); iexact H7
  isplitl [H8]; · iapply (any_in sb2M (View.set_whole _) c); iexact H8
  isplitl [H9]; · iapply (any_in ryM (View.set_whole _) c); iexact H9
  isplitl [H10]; · iapply (any_in statM (View.set_whole _) c); iexact H10
  iapply (any_in carM (View.set_whole _) c); iexact H11
theorem rest_out (c : Dev nD) : allAny (F := F) c ⊢ (Pipeline.scopedRest (Ix := Unit) (Name := ℕ) (U := UU) (Lvl := ℕ) (Val := Elt F) spec0 c : sProp 𝕄) := by
  rw [scopedRest0_eq]; unfold allAny
  iintro ⟨H0, H1, H2, H3, H4, H5, H6, H7, H8, H9, H10, H11⟩
  isplitl [H0]; · iapply (any_out colM (View.set_whole _) c); iexact H0
  isplitl [H1]; · iapply (any_out rowM (View.set_whole _) c); iexact H1
  isplitl [H2]; · iapply (any_out scolM (View.set_whole _) c); iexact H2
  isplitl [H3]; · iapply (any_out srowM (View.set_whole _) c); iexact H3
  isplitl [H4]; · iapply (any_out extM (View.set_whole _) c); iexact H4
  isplitl [H5]; · iapply (any_out accM (View.set_whole _) c); iexact H5
  isplitl [H6]; · iapply (any_out sbM (View.set_whole _) c); iexact H6
  isplitl [H7]; · iapply (any_out rxM (View.set_whole _) c); iexact H7
  isplitl [H8]; · iapply (any_out sb2M (View.set_whole _) c); iexact H8
  isplitl [H9]; · iapply (any_out ryM (View.set_whole _) c); iexact H9
  isplitl [H10]; · iapply (any_out statM (View.set_whole _) c); iexact H10
  iapply (any_out carM (View.set_whole _) c); iexact H11

/-! ## In and out of the call -/

/-- What `main` holds when the call is entered, and when it is left. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) := Pipeline.afterRegion (pdats m 0 c) (V₁ m c)

theorem hin (c : Dev nD) :
    iprop(Pipeline.scopedRest (Pipeline.pin (pcfgs (F := F)) adm 0).spec c ∗ (∃ r, prngReg c r) ∗ StableHlo.held (c.tc : Thread nD τ) ∅ (V₁ m c) ∗ Xk m c)
      ⊢ (pdats m 0 c).Φ 0 := by
  rw [show (pdats m 0 c).Φ 0 = iprop(stStart m c ∗ ∃ r, prngReg c r) from rfl]
  have h := rest_in (F := F) c
  unfold Xk stStart fresh
  iintro ⟨Hs, Hp, -, ⟨%K, HR, Hlev, Hb, Hw, Hrw⟩⟩
  ihave Ha := h $$ Hs
  unfold allAny
  icases Ha with ⟨Hcol, Hrow, Hscol, Hsrow, Hext, Hacc, Hsb, Hrx, Hsb2, Hry, Hstat, Hcar⟩
  isplitr [Hp]
  · iexists K
    isplitl [HR]; · iexact HR
    isplitl [Hlev]; · iexact Hlev
    isplitl [Hb]; · iexact Hb
    isplitl [Hw]; · iexact Hw
    isplitl [Hrw]; · iexact Hrw
    isplitl [Hext Hsb Hsb2 Hstat Hcar]
    · isplitl [Hext]; · iexact Hext
      isplitl [Hsb]; · iexact Hsb
      isplitl [Hsb2]; · iexact Hsb2
      isplitl [Hstat]; · iexact Hstat
      iexact Hcar
    isplitl [Hcol]; · iexact Hcol
    isplitl [Hrow]; · iexact Hrow
    isplitl [Hrx]; · iexact Hrx
    isplitl [Hry]; · iexact Hry
    isplitl [Hscol]; · iexact Hscol
    isplitl [Hsrow]; · iexact Hsrow
    iexact Hacc
  iexact Hp

theorem St_last (c : Dev nD) : (pdats m 0 c).Φ (Fin.last (Pipeline.pin (pcfgs (F := F)) adm 0).N) = iprop(stRows m c 32 ∗ ∃ r, prngReg c r) := by
  show iprop(St m c (Fin.last cfg0.N).val ∗ ∃ r, prngReg c r) = _
  rw [Fin.val_last, show cfg0.N = 32 from N_0, St_rows m c 32 (by decide)]

theorem hout (c : Dev nD) :
    (pdats m 0 c).Φ (Fin.last (Pipeline.pin (pcfgs (F := F)) adm 0).N)
      ⊢ iprop(Pipeline.scopedRest (Pipeline.pin (pcfgs (F := F)) adm 0).spec c ∗ (∃ r, prngReg c r) ∗ StableHlo.held (c.tc : Thread nD τ) ∅ (V₂ m c)
        ∗ Pipeline.ownSems0 osem c ∗ Yk (F := F) c) := by
  have hs : (Pipeline.ownSems0 osem c : sProp 𝕄) = bigSep Finset.univ fun k : Fin 8 => semVal (dcell c k) 0 := rfl
  have h := rest_out (F := F) c
  have h0 : (StableHlo.held (c.tc : Thread nD τ) ∅ (V₂ m c) : sProp 𝕄) = BI.emp := BI.bigSep_empty
  rw [St_last, hs, bigSep_fin8, h0]
  unfold stRows rowsAt zeros rowZeros spent Yk
  iintro ⟨⟨Hz, ⟨Hz0, Hz2, Hz4, Hz5, Hz6, Hz7⟩, ⟨Hz1, Hz3⟩, ⟨Hcol, Hrow, Hstat, ⟨%ca, -, Hcar⟩⟩, Hext, ⟨Hscol, Hsrow, Hacc, Hsb, Hrx, Hsb2, Hry⟩⟩, Hp⟩
  isplitl [Hcol Hrow Hstat Hcar Hext Hscol Hsrow Hacc Hsb Hrx Hsb2 Hry]
  · iapply h
    unfold allAny
    isplitl [Hcol]; · iexists _; iexact Hcol
    isplitl [Hrow]; · iexists _; iexact Hrow
    isplitl [Hscol]; · iexact Hscol
    isplitl [Hsrow]; · iexact Hsrow
    isplitl [Hext]; · iexact Hext
    isplitl [Hacc]; · iexact Hacc
    isplitl [Hsb]; · iexact Hsb
    isplitl [Hrx]; · iexact Hrx
    isplitl [Hsb2]; · iexact Hsb2
    isplitl [Hry]; · iexact Hry
    isplitl [Hstat]; · iexists _; iexact Hstat
    iexists _; iexact Hcar
  isplitl [Hp]; · iexact Hp
  isplitr; · iempintro
  isplitr [Hz]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    iexact Hz7
  iexact Hz

/-! ## The segment -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_above (c : Dev nD) (n : ℕ) : Above 0 (owedAt c n) := by
  unfold owedAt
  split
  · exact above_O₀ c
  · split
    · exact fun g u h => ⟨(above_O4 c g u h).1, lt_trans Nat.zero_lt_one (above_O4 c g u h).2⟩
    · exact above_zero 0

theorem owed_first (c : Dev nD) : (pdats m 0 c).owed 0 = (0 : CellTallies nD τ sig Unit) + O₀ c := (zero_add _).symm
theorem owed_last (c : Dev nD) : (pdats m 0 c).owed (Fin.last (Pipeline.pin (pcfgs (F := F)) adm 0).N) = 0 := by
  show owedAt c (Fin.last cfg0.N).val = 0
  rw [Fin.val_last, show cfg0.N = 32 from N_0]; exact owed_done c 32 (by decide)

/-- The unscoped buffers, and those that are no window's array. -/
def bufs : Finset (DevRef τ sig) := (StableHlo.tcRefs τ sig).filter fun b => ¬ b.isScoped
def others : Finset (DevRef τ sig) := bufs \ Pipeline.arrRefs (τ := τ) (pcfgs (F := F) 0).spec

theorem staging_low : ∀ (w : Fin 5) (s : Fin (spec0 w).nbuf), lvS (.dma ((spec0 w).sem s)) = 0 := by decide

theorem full (c : Dev nD) (w : Fin 5) : (pdats m 0 c).share w = fullShare := by
  show (if (win0 w).isOut then fullShare else fullShare) = fullShare
  split <;> rfl

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (others (F := F)) (Finset.empty_subset _) kitP rfl (fun c => (body m c).loose)
    (fun _ => 0) O₀ (owed_first m) (owed_last m) (fun _ => rfl) (full m)
    (V₁ m) (V₂ m) (fun c b hb => Pipeline.afterRegion_off (pdats m 0 c) (V₁ m c) bufs b (Finset.mem_sdiff.mp hb).1)
    (Tk m) Yk (Xk m) Yk (hopen m) (hin m) (hout m)
    (fun c => by iintro H; imodintro; iexact H)
    (fun _ => 0)
    ⟨fun c w s => by rw [L_tc]; exact Finset.mem_singleton_self _, fun c w s => le_of_eq (staging_low w s), fun c t g i h => owed_above c t.val g i h⟩
    (fun _ => iprop(emp))
    (fun c w => rfl) (fun c w => (Pipeline.afterRegion_arr (pdats m 0 c) (V₁ m c) winFacts0.arr_inj w).symm)

theorem reg0_pre (c : Dev nD) :
    iprop(StableHlo.held (c : Thread nD τ) bufs (V₁ m c) ∗ (∃ r, prngReg c r) ∗ Tk m c ∗ due (F := F) c (O₀ c)) ⊢ (reg0 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) (others (F := F)) (V₁ m c) ∗ emp) ∗ Tk m c ∗ ∃ Wd, owes (c : Thread nD τ) (0 + O₀ c) Wd)
  rw [StableHlo.held_sub_split (c.tc : Thread nD τ) (show Pipeline.arrRefs (τ := τ) (pcfgs (F := F) 0).spec ⊆ bufs from by
    show Pipeline.arrRefs (τ := τ) spec0 ⊆ bufs; decide) (V₁ m c), zero_add]
  unfold due
  iintro ⟨⟨Ha, Hu⟩, Hp, HT, HO⟩
  isplitl [Ha]; · iexact Ha
  isplitl [Hp]; · iexact Hp
  isplitl [Hu]
  · isplitl [Hu]; · iexact Hu
    iempintro
  isplitl [HT]; · iexact HT
  iexact HO

theorem reg0_post (c : Dev nD) :
    (reg0 m).post c ⊢ iprop(StableHlo.held (c : Thread nD τ) bufs (V₂ m c) ∗ semVal (barCell c) 0 ∗ due (F := F) c 0) := by
  show iprop(StableHlo.held (c.tc : Thread nD τ) (Pipeline.arrRefs (τ := τ) (pcfgs (F := F) 0).spec) (V₂ m c) ∗ (∃ r, prngReg c r)
    ∗ (StableHlo.held (c.tc : Thread nD τ) (others (F := F)) (V₂ m c) ∗ emp) ∗ Yk (F := F) c ∗ ∃ Wd, owes (c : Thread nD τ) (0 : CellTallies nD τ sig Unit) Wd) ⊢ _
  rw [StableHlo.held_sub_split (c.tc : Thread nD τ) (show Pipeline.arrRefs (τ := τ) (pcfgs (F := F) 0).spec ⊆ bufs from by
    show Pipeline.arrRefs (τ := τ) spec0 ⊆ bufs; decide) (V₂ m c)]
  unfold Yk due
  iintro ⟨Ha, -, ⟨Hu, -⟩, Hb, HO⟩
  isplitl [Ha Hu]
  · isplitl [Ha]; · iexact Ha
    iexact Hu
  isplitl [Hb]; · iexact Hb
  iexact HO

end Cert.KernelIdeal.Run

end
-- ==== Proof.Start.lean ====
/-
  The launch: every cell's record allocated, the tokens and the credit dealt to the devices.
-/
module

public import proofs.«01_k».proof.Proof.Talk

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Steps

variable {F : FTy → Type} [FloatOps F]

local notation "𝕄" => MT nD τ sig Unit (Elt F) ℕ UU ℕ

variable (m : (ℓ : Loc nD τ sig) → Buf (Elt F) ℓ) (ρ : Dev nD → PrngReg)

/-! ## The unscoped buffers and counters -/

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscoped_sem (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem only_bar : ∀ sm : SemLoc sig, sm.isScoped .tc = false → sm = .reg barS := by decide

theorem disjoint_cells : Disjoint (barCells : Finset (GSem nD τ sig)) dCells := by
  rw [Finset.disjoint_left]
  rintro g h₁ h₂
  obtain ⟨c, -, rfl⟩ := Finset.mem_map.mp h₁
  obtain ⟨ck, -, h⟩ := Finset.mem_map.mp h₂
  have h' : SemLoc.dma (dsem ck.2) = SemLoc.reg barS := congrArg (fun g : GSem nD τ sig => g.2) h
  cases h'

/-! ## The tokens -/

/-- The duties on one device's cells: the barrier's two, and one on each copy's cell. -/
def dutySem : Fin 10 → SemLoc sig
  | 0 | 1 => .reg barS
  | 2 => .dma (dsem 0) | 3 => .dma (dsem 1) | 4 => .dma (dsem 2) | 5 => .dma (dsem 3)
  | 6 => .dma (dsem 4) | 7 => .dma (dsem 5) | 8 => .dma (dsem 6) | 9 => .dma (dsem 7)
def dutyWho : Fin 10 → Bool
  | 1 => true
  | _ => false
theorem duty_inj : Function.Injective fun j : Fin 10 => (dutySem j, dutyWho j) := by decide

def allToks : Finset (GSem nD τ sig × ℕ × Bool) :=
  Finset.univ.map ⟨fun x : Dev nD × Fin 10 => (((x.1 : Thread nD τ), dutySem x.2), 0, dutyWho x.2), fun a b h =>
    Prod.ext (congrArg (fun t : GSem nD τ sig × ℕ × Bool => t.1.1.1) h)
      (duty_inj (Prod.ext (congrArg (fun t : GSem nD τ sig × ℕ × Bool => t.1.2) h) (congrArg (fun t : GSem nD τ sig × ℕ × Bool => t.2.2) h)))⟩

theorem bigSep_fin10 {M : Type} [URA M] (Φ : Fin 10 → sProp M) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- The tokens on device `c`'s cells. -/
def toksOn (c : Dev nD) : sProp 𝕄 :=
  iprop(dutyTok ER (barCell c) 0 false ∗ dutyTok ER (barCell c) 0 true ∗ dutyTok ER (dcell c 0) 0 false ∗ dutyTok ER (dcell c 1) 0 false
    ∗ dutyTok ER (dcell c 2) 0 false ∗ dutyTok ER (dcell c 3) 0 false ∗ dutyTok ER (dcell c 4) 0 false ∗ dutyTok ER (dcell c 5) 0 false
    ∗ dutyTok ER (dcell c 6) 0 false ∗ dutyTok ER (dcell c 7) 0 false)
/-- The tokens of the duties device `c` pays. -/
def toksBy (c : Dev nD) : sProp 𝕄 :=
  iprop(dutyTok ER (barCell (pX c)) 0 false ∗ dutyTok ER (barCell (pY c)) 0 true ∗ dutyTok ER (dcell c 0) 0 false ∗ dutyTok ER (dcell c 1) 0 false
    ∗ dutyTok ER (dcell (pY c) 2) 0 false ∗ dutyTok ER (dcell (pX c) 3) 0 false ∗ dutyTok ER (dcell c 4) 0 false ∗ dutyTok ER (dcell c 5) 0 false
    ∗ dutyTok ER (dcell (pX c) 6) 0 false ∗ dutyTok ER (dcell (pY c) 7) 0 false)

theorem toks_on : bigSep allToks (fun x => (dutyTok ER x.1 x.2.1 x.2.2 : sProp 𝕄)) = bigSep Finset.univ fun c : Dev nD => toksOn (F := F) c := by
  unfold allToks; rw [bigSep_map, bigSep_univ_prod]
  exact bigSep_congr fun c _ => by unfold toksOn; rw [bigSep_fin10]; rfl

theorem toks_by : (bigSep Finset.univ fun c : Dev nD => toksOn (F := F) c) = bigSep Finset.univ fun c : Dev nD => toksBy (F := F) c := by
  unfold toksOn toksBy
  simp only [bigSep_sep']
  rw [bigSep_univ_equiv eX (fun c : Dev nD => (dutyTok ER (barCell c) 0 false : sProp 𝕄)),
    bigSep_univ_equiv eY (fun c : Dev nD => (dutyTok ER (barCell c) 0 true : sProp 𝕄)),
    bigSep_univ_equiv eY (fun c : Dev nD => (dutyTok ER (dcell c 2) 0 false : sProp 𝕄)),
    bigSep_univ_equiv eX (fun c : Dev nD => (dutyTok ER (dcell c 3) 0 false : sProp 𝕄)),
    bigSep_univ_equiv eX (fun c : Dev nD => (dutyTok ER (dcell c 6) 0 false : sProp 𝕄)),
    bigSep_univ_equiv eY (fun c : Dev nD => (dutyTok ER (dcell c 7) 0 false : sProp 𝕄))]
  rfl

/-! ## The credit -/

theorem owed_apply (d c : Dev nD) (sm : SemLoc sig) : O₀ d ((c : Thread nD τ), sm) ()
    = (if c = pX d ∧ sm = .dma (dsem 3) then NN 3 else 0) + (if c = pY d ∧ sm = .dma (dsem 7) then NN 7 else 0)
      + (if c = pX d ∧ sm = .dma (dsem 6) then NN 6 else 0) + (if c = pY d ∧ sm = .dma (dsem 2) then NN 2 else 0)
      + (if c = pY d ∧ sm = .reg barS then 1 else 0) + (if c = pX d ∧ sm = .reg barS then 1 else 0) := by
  have hc (e : Dev nD) (sm' : SemLoc sig) (n : ℕ) :
      (tallyAt (((e : Thread nD τ), sm')) () n : CellTallies nD τ sig Unit) ((c : Thread nD τ), sm) () = if c = e ∧ sm = sm' then n else 0 := by
    rw [tallyAt_apply]
    refine if_congr ⟨fun h => ?_, fun h => ?_⟩ rfl rfl
    · exact ⟨congrArg (fun g : GSem nD τ sig => g.1.1) h.1, congrArg (fun g : GSem nD τ sig => g.2) h.1⟩
    · rw [h.1, h.2]; exact ⟨rfl, rfl⟩
  unfold O₀ O5 O4 O3 O2 O1
  simp only [Pi.add_apply, Finsupp.add_apply, hc]
  rw [Pi.zero_apply, Finsupp.zero_apply, Nat.zero_add]

theorem sum_X (c : Dev nD) (n : ℕ) : (∑ d : Dev nD, if c = pX d then n else 0) = n := by
  rw [Finset.sum_congr rfl fun d _ => if_congr (show c = pX d ↔ d = pX c from ⟨fun h => by rw [h, pX_pX], fun h => by rw [h, pX_pX]⟩) rfl rfl,
    Finset.sum_ite_eq' Finset.univ (pX c) fun _ => n, if_pos (Finset.mem_univ _)]
theorem sum_Y (c : Dev nD) (n : ℕ) : (∑ d : Dev nD, if c = pY d then n else 0) = n := by
  rw [Finset.sum_congr rfl fun d _ => if_congr (show c = pY d ↔ d = pY c from ⟨fun h => by rw [h, pY_pY], fun h => by rw [h, pY_pY]⟩) rfl rfl,
    Finset.sum_ite_eq' Finset.univ (pY c) fun _ => n, if_pos (Finset.mem_univ _)]

/-- The cells a device may wait on, and what for. -/
def waitSem : Fin 5 → SemLoc sig
  | 0 => .reg barS | 1 => .dma (dsem 2) | 2 => .dma (dsem 3) | 3 => .dma (dsem 6) | 4 => .dma (dsem 7)
def waitFor : Fin 5 → ℕ
  | 0 => 2 | 1 => NN 2 | 2 => NN 3 | 3 => NN 6 | 4 => NN 7
theorem wait_inj : Function.Injective waitSem := by decide
/-- Which of the six dues a cell is the target of. -/
theorem wait_dues : ∀ j : Fin 5, (waitSem j = .dma (dsem 3) ↔ j = 2) ∧ (waitSem j = .dma (dsem 7) ↔ j = 4) ∧ (waitSem j = .dma (dsem 6) ↔ j = 3)
    ∧ (waitSem j = .dma (dsem 2) ↔ j = 1) ∧ (waitSem j = .reg barS ↔ j = 0) := by decide

theorem owed_sum (c : Dev nD) (j : Fin 5) : (∑ d : Dev nD, O₀ d ((c : Thread nD τ), waitSem j) ()) = waitFor j := by
  obtain ⟨h3, h7, h6, h2, h0⟩ := wait_dues j
  simp only [owed_apply, h3, h7, h6, h2, h0]
  have e (b : Prop) [Decidable b] (n : ℕ) (f : Dev nD → Dev nD) :
      (∑ d : Dev nD, if c = f d ∧ b then n else 0) = if b then (∑ d : Dev nD, if c = f d then n else 0) else 0 := by
    by_cases hb : b
    · simp only [hb, and_true, if_true]
    · simp only [hb, and_false, if_false, Finset.sum_const_zero]
  simp only [Finset.sum_add_distrib, e, sum_X, sum_Y]
  fin_cases j <;> rfl

theorem launch_at (c : Dev nD) (j : Fin 5) :
    tallyOn ((c : Thread nD τ), waitSem j) (launchCredit (Pipeline.owing O₀) 0 ((c : Thread nD τ), waitSem j))
      = (tallyAt ((c : Thread nD τ), waitSem j) () (waitFor j) : CellTallies nD τ sig Unit) := by
  unfold tallyAt; refine congrArg _ (Finsupp.ext fun u => ?_); cases u
  rw [Pipeline.launchCredit_owing, Finsupp.single_eq_same, owed_sum]

theorem bigSep_fin5 {M : Type} [URA M] (Φ : Fin 5 → sProp M) : bigSep Finset.univ Φ = iprop(Φ 0 ∗ Φ 1 ∗ Φ 2 ∗ Φ 3 ∗ Φ 4) :=
  bigSep_univ_eq_bigSepL [0, 1, 2, 3, 4] (by decide) (by decide) Φ

theorem creds (c : Dev nD) : (Pipeline.launchCred O₀ c : sProp 𝕄) ⊢ iprop(cred (tallyAt (barCell c) () 2) ∗ copyCreds (F := F) c) := by
  unfold Pipeline.launchCred
  refine (bigSep_subset (Finset.subset_univ (Finset.univ.map ⟨waitSem, wait_inj⟩))).trans ?_
  have h : bigSep (Finset.univ : Finset (Fin 5)) (fun j => (cred (tallyOn ((c : Thread nD τ), waitSem j)
        (launchCredit (Pipeline.owing O₀) 0 ((c : Thread nD τ), waitSem j))) : sProp 𝕄))
      = bigSep (Finset.univ : Finset (Fin 5)) fun j => (cred (tallyAt ((c : Thread nD τ), waitSem j) () (waitFor j)) : sProp 𝕄) :=
    bigSep_congr fun j _ => congrArg cred (launch_at c j)
  exact Entails.of_eq ((bigSep_map _).trans (h.trans (bigSep_fin5 _)))

/-! ## The launch -/

/-- What rides beside the buffers up to the call. -/
def ride (c : Dev nD) : sProp 𝕄 := iprop((∃ r, prngReg c r) ∗ Tk m c ∗ due (F := F) c (O₀ c))
abbrev T₀ (c : Dev nD) : sProp 𝕄 := iprop(StableHlo.held (c : Thread nD τ) bufs (V₀ m c) ∗ ride m c)
abbrev Tₙ (c : Dev nD) : sProp 𝕄 := iprop(StableHlo.held (c : Thread nD τ) bufs (V₂ m c) ∗ semVal (barCell c) 0)

def u₀ : UU :=
  (initOf (Pipeline.cells (Pipeline.pin (pcfgs (F := F)) adm) cellOf_inj) (Pipeline.launchToks (Pipeline.pin (pcfgs (F := F)) adm) cellOf_inj),
    launchOf barCells dCells allToks)

/-- The whole of it is handed out from device 0. -/
def G (c : Dev nD) : sProp 𝕄 := if c = 0 then BI.own (ER (launchOf barCells dCells allToks)) else iprop(emp)
theorem G_all : bigSep Finset.univ (G (F := F)) = BI.own (ER (launchOf barCells dCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- One device's share. -/
def share (c : Dev nD) : sProp 𝕄 :=
  iprop(atPos ER (barCell c) 0 ∅ 0 ∗ rights (F := F) c ∗ toksBy (F := F) c)
/-- What it had of its own. -/
def own₀ (c : Dev nD) : sProp 𝕄 :=
  iprop(StableHlo.held (c : Thread nD τ) bufs (V₀ m c) ∗ (∃ r, prngReg c r) ∗ due (F := F) c (O₀ c) ∗ cred (tallyAt (barCell c) () 2) ∗ copyCreds (F := F) c)

theorem T₀_intro (K : GSem nD τ sig → ℕ) (c : Dev nD) : iprop(invs m K ∗ (share (F := F) c ∗ own₀ m c)) ⊢ T₀ m c := by
  unfold T₀ ride Tk share own₀ toksBy barWires copyToks
  iintro ⟨#HI, ⟨Hat, Hr, ⟨Ht0, Ht1, Ht2, Ht3, Ht4, Ht5, Ht6, Ht7, Ht8, Ht9⟩⟩, ⟨Hh, Hp, HO, Hc, Hcs⟩⟩
  isplitl [Hh]; · iexact Hh
  isplitl [Hp]; · iexact Hp
  isplitr [HO]
  · iexists K
    isplitr; · iexact HI
    isplitl [Hr]; · iexact Hr
    isplitl [Hat Ht0 Ht1 Hc]
    · isplitl [Hat]; · iexact Hat
      isplitl [Ht0]; · iexact Ht0
      isplitl [Ht1]; · iexact Ht1
      iexact Hc
    isplitr [Hcs]
    · isplitl [Ht2 Ht3 Ht6 Ht7]
      · isplitl [Ht2]; · iexact Ht2
        isplitl [Ht3]; · iexact Ht3
        isplitl [Ht6]; · iexact Ht6
        iexact Ht7
      isplitl [Ht4]; · iexact Ht4
      isplitl [Ht5]; · iexact Ht5
      isplitl [Ht8]; · iexact Ht8
      iexact Ht9
    iexact Hcs
  iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have hone (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G (F := F) c)
      ⊢ (iprop(own₀ m c ∗ (semVal (barCell c) 0 ∗ G (F := F) c)) : sProp 𝕄) := by
    rw [show unscopedBufs c (fun b => m ((c : Thread nD τ).loc b)) = StableHlo.held (c : Thread nD τ) bufs (V₀ m c) from unscoped_held c (V₀ m c),
      unscoped_sem]
    unfold own₀ due
    iintro ⟨Hh, Hus, HO, Hcr, Hp, HG⟩
    ihave Hc := (creds (F := F) c) $$ Hcr
    isplitr [Hus HG]
    · isplitl [Hh]; · iexact Hh
      isplitl [Hp]; · iexists (ρ c); iexact Hp
      isplitl [HO]; · iexists ∅; iexact HO
      iexact Hc
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hro : bigSep dCells (fun g => (openTok ER g : sProp 𝕄)) ⊢ bigSep Finset.univ (fun c : Dev nD => rights (F := F) c) :=
    Entails.of_eq (by unfold dCells; rw [bigSep_map, bigSep_univ_prod]; rfl)
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(own₀ m c ∗ (semVal (barCell c) 0 ∗ G (F := F) c)) : sProp 𝕄) := bigSep_mono fun c _ => hone c
  iintro ⟨H, -⟩
  ihave H := hall $$ H
  ihave H := unzipped $$ H
  icases H with ⟨HB, H⟩
  ihave H := unzipped $$ H
  icases H with ⟨Hv, HG⟩
  ihave Hu := (Entails.of_eq (G_all (F := F))) $$ HG
  imod (Rounds.fund_launch ER (Rd m) disjoint_cells (fun g _ h => h) allToks) $$ [Hv Hu] with ⟨%K, -, #Hinv, #Hr, Hat, Hopen, Htok⟩
  · isplitl [Hv]
    · iapply hv $$ Hv
    · iexact Hu
  imodintro
  iapply (bigSep_with_persistent (R := invs m K) (Φ := fun c => iprop(share (F := F) c ∗ own₀ m c)) fun c _ => T₀_intro m K c)
  isplitr
  · unfold invs
    isplitr; · iexact Hinv
    iexact Hr
  iapply zipped
  isplitr [HB]
  · unfold share
    iapply zipped; isplitl [Hat]; · iapply hat $$ Hat
    iapply zipped; isplitl [Hopen]; · iapply hro $$ Hopen
    iapply (Entails.of_eq (toks_by (F := F)))
    iapply (Entails.of_eq (toks_on (F := F))) $$ Htok
  · iexact HB

end Cert.KernelIdeal.Run

end
-- ==== Proof.Whole.lean ====
/-
  The kernel's run over any float values: from any memory it ends, the arguments as they were, every counter at zero,
  and the result array at what the call's blocks wrote.
-/
module

public import proofs.«01_k».proof.Proof.Start
public import proofs.«01_k».proof.Proof.Gen.KernelIdeal.Launch
public import proofs.«01_k».proof.Proof.Gen.KernelIdeal.Frame

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Steps

variable {F : FTy → Type} [FloatOps F]

local notation "𝕄" => MT nD τ sig Unit (Elt F) ℕ UU ℕ

variable (m : (ℓ : Loc nD τ sig) → Buf (Elt F) ℓ) (ρ : Dev nD → PrngReg)

/-- The host operations before the call. -/
def seg0 : Pipeline.HostSeg (Name := ℕ) (U := UU) (pcfgs (F := F)) defs₀ 𝒱₀ L lv :=
  Pipeline.HostSeg.ofOps _ _ _ _ _ bufs hostOps0
    (fun op h => Pipeline.sub_ucRefs op (List.forall_iff_forall_mem.mp Gen.hostOps0_sub op h))
    (fun op h => List.forall_iff_forall_mem.mp Gen.hostOps0_fresh op h) (V₀ m) (ride m)

def segs : List (Pipeline.Seg (pcfgs (F := F)) adm (pdats m) () defs₀ 𝒱₀ L lv) := [.host (seg0 m), .region (reg0 m)]

theorem main_eq (c : Dev nD) : main (F := F) c = Pipeline.Seg.run (segs m) :=
  Gen.main_segs adm (pdats m) () 𝒱₀ L lv (seg0 m) (reg0 m) rfl c

/-- A buffer of device `c` held whole. -/
abbrev arr (c : Dev nD) (b : Ref sig .tc) (f : b.ty.Contents (Elt F)) : sProp 𝕄 := (c : Thread nD τ).loc b ↦{fullShare} f

/-- The arrays the claims speak of. -/
def named : Finset (DevRef τ sig) :=
  {Proc.devRef .tc main_arg0, Proc.devRef .tc main_arg1, Proc.devRef .tc main_arg2, Proc.devRef .tc main_v9}

theorem held_named (c : Dev nD) (W : Valuation τ sig (Elt F)) : (StableHlo.held (c : Thread nD τ) bufs W : sProp 𝕄)
    ⊢ iprop(arr c main_arg0 (W (Proc.devRef .tc main_arg0))
      ∗ arr c main_arg1 (W (Proc.devRef .tc main_arg1))
      ∗ arr c main_arg2 (W (Proc.devRef .tc main_arg2))
      ∗ arr c main_v9 (W (Proc.devRef .tc main_v9))) := by
  rw [StableHlo.held_sub_split (c.tc : Thread nD τ) (show named ⊆ bufs from by decide) W]
  have h : (StableHlo.held (c.tc : Thread nD τ) named W : sProp 𝕄) ⊢ iprop(arr c main_arg0 (W (Proc.devRef .tc main_arg0))
      ∗ arr c main_arg1 (W (Proc.devRef .tc main_arg1))
      ∗ arr c main_arg2 (W (Proc.devRef .tc main_arg2))
      ∗ arr c main_v9 (W (Proc.devRef .tc main_v9))) := by
    unfold StableHlo.held
    rw [bigSep_eq_bigSepL_of_eq [Proc.devRef .tc main_arg0, Proc.devRef .tc main_arg1, Proc.devRef .tc main_arg2, Proc.devRef .tc main_v9]
      (by decide) (by decide)]
    exact BI.Entails.refl _
  iintro ⟨H, -⟩
  iapply h $$ H

/-- The call leaves the arguments as it found them. -/
theorem kept (c : Dev nD) (r : Ref sig .tc) (h : ∀ w, Pipeline.arrRef spec0 w = r → (win0 w).isOut = false) :
    V₂ m c (Proc.devRef .tc r) = V₁ m c (Proc.devRef .tc r) :=
  Pipeline.afterRegion_keeps (pdats m 0 c) (V₁ m c) winFacts0.arr_inj (fun w => by fin_cases w <;> rfl) r h

theorem V₂_arg0 (c : Dev nD) : V₂ m c (Proc.devRef .tc main_arg0) = m ((c : Thread nD τ).loc main_arg0) :=
  (kept m c main_arg0 (by decide)).trans (V_main_arg0 m c)
theorem V₂_arg1 (c : Dev nD) : V₂ m c (Proc.devRef .tc main_arg1) = m ((c : Thread nD τ).loc main_arg1) :=
  (kept m c main_arg1 (by decide)).trans (V_main_arg1 m c)
theorem V₂_arg2 (c : Dev nD) : V₂ m c (Proc.devRef .tc main_arg2) = m ((c : Thread nD τ).loc main_arg2) :=
  (kept m c main_arg2 (by decide)).trans (V_main_arg2 m c)
theorem V₂_out (c : Dev nD) : V₂ m c (Proc.devRef .tc main_v9) = (dat0 m c).arrAt 4 cfg0.N :=
  Pipeline.afterRegion_arr (pdats m 0 c) (V₁ m c) winFacts0.arr_inj 4

set_option backward.isDefEq.respectTransparency.types false in
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v9) = (dat0 m c).arrAt 4 cfg0.N) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => ?_, fun c => (reg0_post m c).trans ?_⟩
      · show iprop(StableHlo.held (c : Thread nD τ) bufs (V₁ m c) ∗ ride m c) ⊢ (reg0 m).pre c
        unfold ride; exact reg0_pre m c
      · unfold due
        iintro ⟨Hh, Hb0, HO⟩
        isplitr [HO]
        · isplitl [Hh] <;> iassumption
        · iexact HO)
    (hinit := init m ρ)
    (QY := fun c s => (s.mem ((c : Thread nD τ).loc main_arg0) = V₂ m c (Proc.devRef .tc main_arg0)
        ∧ s.mem ((c : Thread nD τ).loc main_arg1) = V₂ m c (Proc.devRef .tc main_arg1)
        ∧ s.mem ((c : Thread nD τ).loc main_arg2) = V₂ m c (Proc.devRef .tc main_arg2)
        ∧ s.mem ((c : Thread nD τ).loc main_v9) = V₂ m c (Proc.devRef .tc main_v9))
      ∧ s.sem (barCell c) = 0)
    (hfin := fun c s' => by
      dsimp only [Tₙ]
      iintro ⟨⟨Hh, Hb0⟩, HSI⟩
      ihave Hn := (held_named c (V₂ m c)) $$ Hh
      icases Hn with ⟨H0, H1, H2, H9⟩
      icombine HSI H0 gives %h0
      icombine HSI H1 gives %h1
      icombine HSI H2 gives %h2
      icombine HSI H9 gives %h9
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h9⟩, by simpa using hb⟩
      iexact HSI)
    (hQ := fun s h hs => ⟨fun c => by
        obtain ⟨⟨h0, h1, h2, h9⟩, -⟩ := h c
        rw [V₂_arg0] at h0; rw [V₂_arg1] at h1; rw [V₂_arg2] at h2; rw [V₂_out] at h9
        exact ⟨h0, h1, h2, h9⟩,
      sem_eq_zero hs fun c sm hsm => by
        obtain rfl := only_bar sm hsm
        exact (h c).2⟩)

/-- The run with the result's contents dropped. -/
theorem frame_any : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  (θ_run defs _ _).mono (fun _ h => ⟨fun c => ⟨(h.1 c).1, (h.1 c).2.1, (h.1 c).2.2.1⟩, h.2⟩) (run_main m ρ)

end Cert.KernelIdeal.Run

end
-- ==== Proof.Same.lean ====
/-
  The kernel as printed and the kernel read over exact values are one text.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F]

set_option maxHeartbeats 1000000 in
set_option backward.isDefEq.respectTransparency.types false in
theorem body_table : (Cert.Kernel.defs₀ (F := F)) = Cert.KernelIdeal.defs₀ := by
  unfold Cert.Kernel.defs₀ Cert.KernelIdeal.defs₀
  congr 1; funext i; refine Fin.cases (n := 0) ?_ (fun i => i.elim0) i
  rfl

theorem table : (Cert.Kernel.defs (F := F)) = Cert.KernelIdeal.defs :=
  congrArg (Pipeline.defs Cert.KernelIdeal.pcfgs) body_table

theorem main : (Cert.Kernel.main (F := F)) = Cert.KernelIdeal.main := rfl

end Cert.Same

end
-- ==== Proof.Spec.lean ====
/-
  The problem's mathematics over the extended reals, as both programs are shown to compute it: the image with its border repeated,
  its mean and spread over the pixels of a batch entry and channel, the normalised image, the depthwise three by three sum, the
  activation, the mixing of the channels, the sum with the image itself.
-/
module

public import Idealize.ShloMosaic.Lib.Pointwise

@[expose] public section

noncomputable section

namespace Cert.Spec

open Idealize.ShloMosaic

/-- An image: batch entry, row, column, channel. -/
abbrev Img := Fin 2 → Fin 512 → Fin 512 → Fin 128 → EReal

/-- Row or column `p` of the image with its border repeated, as a row or column of the image. -/
def cl (p : ℕ) : Fin 512 := ⟨min (p - 1) 511, by omega⟩

theorem cl_congr {p q : ℕ} (h : min (p - 1) 511 = min (q - 1) 511) : cl p = cl q := Fin.ext h

variable (X : Img) (K : Fin 3 → Fin 3 → Fin 128 → EReal) (W : Fin 128 → Fin 128 → EReal)

/-- The image with its border repeated: its pixel `(p + 1, q + 1)` is the image's `(p, q)`. -/
def px (b : Fin 2) (p q : ℕ) (ch : Fin 128) : EReal := X b (cl p) (cl q) ch

/-- The sum over `a` rows from row `p`, `d` columns from column `q`. -/
def box (f : ℕ → ℕ → EReal) (p a q d : ℕ) : EReal := ∑ r ∈ Finset.range a, ∑ w ∈ Finset.range d, f (p + r + 1) (q + w + 1)

/-- The number of pixels. -/
abbrev npx : EReal := Ideal.ofBits .f32 0x48800000#32
/-- The small number added to the spread. -/
abbrev eps : EReal := Ideal.ofBits .f32 0x3727C5AC#32

def total (b : Fin 2) (ch : Fin 128) : EReal := box (fun p q => px X b p q ch) 0 512 0 512
def totalSq (b : Fin 2) (ch : Fin 128) : EReal := box (fun p q => px X b p q ch * px X b p q ch) 0 512 0 512
def mean (b : Fin 2) (ch : Fin 128) : EReal := Ideal.div (total X b ch) npx
/-- The reciprocal of the deviation, from the mean of the squares less the square of the mean. -/
def rstd (b : Fin 2) (ch : Fin 128) : EReal := Ideal.rsqrt (Ideal.div (totalSq X b ch) npx - mean X b ch * mean X b ch + eps)

/-- The normalised image, its border repeated. -/
def hat (b : Fin 2) (p q : ℕ) (ch : Fin 128) : EReal := (px X b p q ch - mean X b ch) * rstd X b ch

/-- The three by three sum whose upper left corner is `(p, q)`, over any padded image. -/
def conv (H : ℕ → ℕ → EReal) (k : Fin 3 → Fin 3 → EReal) (p q : ℕ) : EReal :=
  H p q * k 0 0 + H p (q + 1) * k 0 1 + H p (q + 2) * k 0 2
    + H (p + 1) q * k 1 0 + H (p + 1) (q + 1) * k 1 1 + H (p + 1) (q + 2) * k 1 2
    + H (p + 2) q * k 2 0 + H (p + 2) (q + 1) * k 2 1 + H (p + 2) (q + 2) * k 2 2

/-- The activation. -/
def act (z : EReal) : EReal := z * Ideal.logistic z

/-- The result at row `p`, column `q`. -/
def out (b : Fin 2) (p q : ℕ) (ch : Fin 128) : EReal :=
  px X b (p + 1) (q + 1) ch
    + ∑ k : Fin 128, act (conv (fun p' q' => hat X b p' q' k) (fun i j => K i j k) p q) * W k ch

/-! ## Sums over boxes -/

theorem box_rows (f : ℕ → ℕ → EReal) (p a a' q d : ℕ) : box f p (a + a') q d = box f p a q d + box f (p + a) a' q d := by
  unfold box
  rw [Finset.sum_range_add]
  simp only [Nat.add_assoc]

theorem box_cols (f : ℕ → ℕ → EReal) (p a q d d' : ℕ) : box f p a q (d + d') = box f p a q d + box f p a (q + d) d' := by
  unfold box
  rw [← Finset.sum_add_distrib]
  refine Finset.sum_congr rfl fun r _ => ?_
  rw [Finset.sum_range_add]
  simp only [Nat.add_assoc]

/-- The four quarters make the whole, in the order in which the quarters of a device, of its peer along the first mesh axis, and
    of the two others are added. -/
theorem box_quarters (f : ℕ → ℕ → EReal) (i j : ℕ) (hi : i < 2) (hj : j < 2) :
    (box f (256 * i) 256 (256 * j) 256 + box f (256 * (1 - i)) 256 (256 * j) 256)
      + (box f (256 * i) 256 (256 * (1 - j)) 256 + box f (256 * (1 - i)) 256 (256 * (1 - j)) 256) = box f 0 512 0 512 := by
  have h : box f 0 512 0 512 = (box f 0 256 0 256 + box f 0 256 256 256) + (box f 256 256 0 256 + box f 256 256 256 256) := by
    rw [show (512 : ℕ) = 256 + 256 from rfl, box_rows, box_cols, box_cols]
  rw [h]
  interval_cases i <;> interval_cases j <;> simp only [Nat.mul_zero, Nat.mul_one, Nat.sub_zero, Nat.sub_self] <;> abel

theorem box_fin (f : ℕ → ℕ → EReal) (p q : ℕ) (a d : ℕ) :
    ∑ r : Fin a, ∑ w : Fin d, f (p + r.val + 1) (q + w.val + 1) = box f p a q d := by
  unfold box
  rw [Finset.sum_range]
  exact Finset.sum_congr rfl fun r _ => (Finset.sum_range fun w => f (p + r.val + 1) (q + w + 1)).symm

/-! ## A sum over the two middle axes -/

theorem sum_middle {n0 n1 n2 n3 : ℕ} (h : (⟨4, ![n0, n1, n2, n3]⟩ : Shape).ReducesTo [1, 2] ⟨2, ![n0, n3]⟩)
    (v : (⟨4, ![n0, n1, n2, n3]⟩ : Shape).Idx → EReal) (b : Fin n0) (ch : Fin n3) :
    ∑ i ∈ Finset.univ.filter (fun i => h.drop i = ix2 b ch), v i = ∑ r : Fin n1, ∑ w : Fin n2, v (ix4 b r w ch) := by
  have e0 : ∀ i, (h.drop i 0).val = (i 0).val := fun i => h.drop_apply_val_of_eq i 0 0 (by show 0 < 2; decide) rfl
  have e1 : ∀ i, (h.drop i 1).val = (i 3).val := fun i => h.drop_apply_val_of_eq i 1 3 (by show 1 < 2; decide) rfl
  rw [Finset.sum_filter_eq_sum_of_fiber _ (fun k : Fin n1 × Fin n2 => ix4 b k.1 k.2 ch)
    (fun k k' hk => by have := (ix4_inj _ _ _ _ _ _ _ _).mp hk; exact Prod.ext this.2.1 this.2.2.1)
    (fun i => ⟨fun hi => ⟨(i 1, i 2), by
        have h0 := congrArg Fin.val (congrFun hi 0)
        have h1 := congrArg Fin.val (congrFun hi 1)
        rw [e0] at h0; rw [e1] at h1
        rw [eq_ix4 i]
        exact (ix4_inj _ _ _ _ _ _ _ _).mpr ⟨Fin.ext h0.symm, rfl, rfl, Fin.ext h1.symm⟩⟩,
      fun ⟨k, hk⟩ => by
        subst hk
        rw [eq_ix2 (h.drop _)]
        exact (ix2_inj _ _ _ _).mpr ⟨Fin.ext (e0 _), Fin.ext (e1 _)⟩⟩) v]
  rw [Fintype.sum_prod_type]

theorem reduceAdd_middle {n0 n1 n2 n3 : ℕ} (h : (⟨4, ![n0, n1, n2, n3]⟩ : Shape).Reduces [1, 2] ⟨2, ![n0, n3]⟩)
    (v : (⟨4, ![n0, n1, n2, n3]⟩ : Shape).Idx → EReal) (b : Fin n0) (ch : Fin n3) :
    Ideal.reduceAdd h v (ix2 b ch) = ∑ r : Fin n1, ∑ w : Fin n2, v (ix4 b r w ch) :=
  sum_middle h.reducesTo v b ch

theorem hostReduceAdd_middle {n0 n1 n2 n3 : ℕ} (h : (⟨4, ![n0, n1, n2, n3]⟩ : Shape).ReducesTo [1, 2] ⟨2, ![n0, n3]⟩)
    (v : (⟨4, ![n0, n1, n2, n3]⟩ : Shape).Idx → EReal) (init : EReal) (b : Fin n0) (ch : Fin n3) :
    Ideal.hostReduceAdd h v init (ix2 b ch) = init + ∑ r : Fin n1, ∑ w : Fin n2, v (ix4 b r w ch) :=
  congrArg (init + ·) (sum_middle h v b ch)

end Cert.Spec

end
-- ==== Proof.Finite.lean ====
/-
  What the precondition says: every entry a device holds of the image is a real number.
-/
module

public import proofs.«01_k».proof.Pre_finite_x_KernelIdeal
public import proofs.«01_k».proof.Pre_finite_x_ReferenceIdeal
public import proofs.«01_k».proof.Proof.Spec
public import Idealize.ShloMosaic.Lib.ReduceAll
public import Idealize.ShloMosaic.Lib.Pointwise.Select

@[expose] public section

noncomputable section

namespace Cert.Finite

open Idealize.ShloMosaic

/-- The side conditions of the precondition's operations, on a device's block and on the whole image. -/
theorem facts_block : Cert.Pre_finite_x_KernelIdeal.Facts where
  bcast_S_S2x256x256x128 := by decide
  reducesTo_S2x256x256x128_S_d0_1_2_3 := by decide
  h_S_ := by decide
theorem facts_whole : Cert.Pre_finite_x_ReferenceIdeal.Facts where
  bcast_S_S2x512x512x128 := by decide
  reducesTo_S2x512x512x128_S_d0_1_2_3 := by decide
  h_S_ := by decide

theorem inf_eq : Ideal.ofBits .f32 0x7F800000#32 = ⊤ := by
  simp [Ideal.ofBits, Ideal.ieee]

instance : Subsingleton Cert.Pre_finite_x_KernelIdeal.S_.Idx := ⟨fun a b => funext fun i => i.elim0⟩

/-- A number whose distance from zero is below infinity is real. -/
theorem real_of_abs (z : EReal) (h : max z (-z) < ⊤) : ∃ y : ℝ, z = (y : EReal) := by
  induction z with
  | bot => simp at h
  | top => simp at h
  | coe r => exact ⟨r, rfl⟩

theorem real_of_pre (x : FVec Ideal Cert.Pre_finite_x_KernelIdeal.S2x256x256x128 .f32) (k : FVec Ideal Cert.Pre_finite_x_KernelIdeal.S3x3x128 .f32)
    (wp : FVec Ideal Cert.Pre_finite_x_KernelIdeal.S128x128 .f32)
    (h : (letI := facts_block; Cert.Pre_finite_x_KernelIdeal.fn (F := Ideal) x k wp) = fun _ => 1#1) (i : Cert.Pre_finite_x_KernelIdeal.S2x256x256x128.Idx) :
    ∃ y : ℝ, x i = (y : EReal) := by
  have e := Host.reduce_andi_all _ _ _ _ ix0 (congrFun h ix0) i
  have e' : Ideal.cmp .olt (max (x i) (-(x i)) : EReal) (Ideal.ofBits .f32 0x7F800000#32) = 1 := e
  rw [inf_eq] at e'
  exact real_of_abs _ ((Ideal.cmp_olt_eq_one _ _).mp e')

end Cert.Finite

end
-- ==== Proof.Pay.lean ====
/-
  What the body's vector computations give at an index: the sums, the statistics, a row with its two corner elements, the padded
  block, the block of the result.
-/
module

public import proofs.«01_k».proof.Proof.Contents
public import proofs.«01_k».proof.Proof.Spec

@[expose] public section

noncomputable section

namespace Cert.KernelIdeal.Run

open Idealize.ShloMosaic
open Cert.KernelIdeal Cert.KernelIdeal.Gen

/-- The running sums start at zero. -/
theorem pay1_at (s b : Fin 2) (ch : Fin 128) : k0_pay1 (F := Ideal) (ix3 s b ch) = 0 := by
  pointwise [k0_pay1]

/-- A block adds the sum of its entries, and the sum of their squares. -/
theorem pay2_at (x : FVec Ideal S2x16x256x128 .f32) (a : FVec Ideal S2x2x128 .f32) (s b : Fin 2) (ch : Fin 128) :
    k0_pay2 x a (ix3 s b ch) = a (ix3 s b ch)
      + if s.val < 1 then ∑ r : Fin 16, ∑ w : Fin 256, x (ix4 b r w ch)
        else ∑ r : Fin 16, ∑ w : Fin 256, x (ix4 b r w ch) * x (ix4 b r w ch) := by
  pointwise [k0_pay2, Spec.reduceAdd_middle]
  rfl

theorem pay7_at (a : FVec Ideal S2x2x128 .f32) : k0_pay7 (F := Ideal) a = a := by unfold k0_pay7; exact shapeCast_self _ _
theorem pay8_at (a a' : FVec Ideal S2x2x128 .f32) (s b : Fin 2) (ch : Fin 128) :
    k0_pay8 (F := Ideal) a a' (ix3 s b ch) = a (ix3 s b ch) + a' (ix3 s b ch) := by pointwise [k0_pay8]
theorem pay9_at (a a' : FVec Ideal S2x2x128 .f32) (s b : Fin 2) (ch : Fin 128) :
    k0_pay9 (F := Ideal) a a' (ix3 s b ch) = a (ix3 s b ch) + a' (ix3 s b ch) := by pointwise [k0_pay9]

/-- The mean and the reciprocal deviation from the sums. -/
theorem pay10_at (t : FVec Ideal S2x2x128 .f32) (b : Fin 2) (ch : Fin 128) :
    k0_pay10 t (ix3 0 b ch) = Ideal.div (t (ix3 0 b ch)) Spec.npx
    ∧ k0_pay10 t (ix3 1 b ch) = Ideal.rsqrt (Ideal.div (t (ix3 1 b ch)) Spec.npx
        - Ideal.div (t (ix3 0 b ch)) Spec.npx * Ideal.div (t (ix3 0 b ch)) Spec.npx + Spec.eps) := by
  constructor <;> pointwise [k0_pay10]

theorem pay12_at (st : FVec Ideal S2x2x128 .f32) (b : Fin 2) (ch : Fin 128) : k0_pay12 (F := Ideal) st (ix2 b ch) = st (ix3 0 b ch) := by
  pointwise [k0_pay12]
theorem pay13_at (st : FVec Ideal S2x2x128 .f32) (b : Fin 2) (ch : Fin 128) : k0_pay13 (F := Ideal) st (ix2 b ch) = st (ix3 1 b ch) := by
  pointwise [k0_pay13]
theorem pay14_at (x : FVec Ideal S2x16x256x128 .f32) : k0_pay14 (F := Ideal) x = x := by unfold k0_pay14; exact shapeCast_self _ _

/-- A row with the elements beside it, the mesh column being `0` or not. -/
def sides (y0 : Bool) (q : ℕ) (row : Fin 256 → EReal) (beside : EReal) : EReal :=
  if q < 1 then (if y0 then row 0 else beside) else if h : q - 1 < 256 then row ⟨q - 1, h⟩ else (if y0 then beside else row 255)

/-- Whether the device is in the first mesh column; in the first mesh row. -/
abbrev fstY (d : Dev nD) : Bool := decide (d.val % 2 = 0)
abbrev fstX (d : Dev nD) : Bool := decide (d.val / 2 = 0)
theorem word_y (d : Dev nD) : Scalar.cmpi .eq (myW d) 0#32 = if fstY d then 1#1 else 0#1 := by revert d; decide +kernel
theorem word_x0 (d : Dev nD) : Scalar.cmpi .eq (mxW d) 0#32 = if fstX d then 1#1 else 0#1 := by revert d; decide +kernel
theorem word_x1 (d : Dev nD) : Scalar.cmpi .eq (mxW d) 1#32 = if fstX d then 0#1 else 1#1 := by revert d; decide +kernel

theorem sel (p : Bool) (a b : EReal) : Scalar.select (if p then 1#1 else 0#1) a b = if p then a else b := by cases p <;> rfl

theorem sides_of (y0 : Bool) (q : Fin 258) (row : Fin 256 → EReal) (E : Fin 1 → EReal) (h0 : q.val < 1 → q.val < 256) (h0' : q.val < 1 → q.val < 1)
    (h1 : q.val - 1 - 256 < 1) (h2 : 255 + (q.val - 1 - 256) < 256) :
    (if h : q.val < 1 then Scalar.select (if y0 then 1#1 else 0#1) (row ⟨q.val, h0 h⟩) (E ⟨q.val, h0' h⟩)
      else if h : q.val - 1 < 256 then row ⟨q.val - 1, h⟩
      else Scalar.select (if y0 then 1#1 else 0#1) (E ⟨q.val - 1 - 256, h1⟩) (row ⟨255 + (q.val - 1 - 256), h2⟩)) = sides y0 q.val row (E 0) := by
  unfold sides
  have hE : ∀ z : Fin 1, E z = E 0 := fun z => congrArg E (Subsingleton.elim _ _)
  by_cases hq : q.val < 1
  · have e : (⟨q.val, h0 hq⟩ : Fin 256) = 0 := Fin.ext (by show q.val = 0; omega)
    rw [dif_pos hq, if_pos hq, sel, hE, e]
  · rw [dif_neg hq, if_neg hq]
    by_cases hq' : q.val - 1 < 256
    · rw [dif_pos hq', dif_pos hq']
    · have e : (⟨255 + (q.val - 1 - 256), h2⟩ : Fin 256) = 255 := Fin.ext (by show 255 + (q.val - 1 - 256) = 255; omega)
      rw [dif_neg hq', dif_neg hq', sel, hE, e]

/-- The edge row with its corners. -/
theorem ext_at (d : Dev nD) (r : FVec Ideal S2x1x256x128 .f32) (e : FVec Ideal S2x1x1x128 .f32) (b : Fin 2) (q : Fin 258) (ch : Fin 128) :
    k0_pay5 (F := Ideal) d r e (k0_pay11 (myW d) r e) (ix4 b 0 q ch)
      = sides (fstY d) q.val (fun w => r (ix4 b 0 w ch)) (e (ix4 b 0 0 ch)) := by
  pointwise [k0_pay5, k0_pay11]
  have h := word_y d
  unfold myW at h
  rw [h]
  have := q.isLt
  exact sides_of (fstY d) q (fun w => r (ix4 b 0 w ch)) (fun z => e (ix4 b 0 z ch)) (by omega) (by omega) (by omega) (by omega)

/-- The block's own rows with the columns beside them, normalised. -/
theorem pay15_at (d : Dev nD) (st : FVec Ideal S2x2x128 .f32) (x : FVec Ideal S2x16x256x128 .f32) (e : FVec Ideal S2x16x1x128 .f32)
    (b : Fin 2) (p : Fin 16) (q : Fin 258) (ch : Fin 128) :
    k0_pay15 (F := Ideal) (myW d) st x e (ix4 b p q ch)
      = (sides (fstY d) q.val (fun w => x (ix4 b p w ch)) (e (ix4 b p 0 ch)) - st (ix3 0 b ch)) * st (ix3 1 b ch) := by
  pointwise [k0_pay15, pay14_at, pay12_at, pay13_at]
  rw [word_y]
  have := q.isLt
  exact congrArg (fun z => (z - st (ix3 0 b ch)) * st (ix3 1 b ch))
    (sides_of (fstY d) q (fun w => x (ix4 b p w ch)) (fun z => e (ix4 b p z ch)) (by omega) (by omega) (by omega) (by omega))

theorem pay16_at (d : Dev nD) (x : FVec Ideal S2x16x256x128 .f32) (e : FVec Ideal S2x1x1x128 .f32) (b : Fin 2) (q : Fin 258) (ch : Fin 128) :
    k0_pay16 (F := Ideal) (myW d) x e (ix3 b q ch)
      = sides (fstY d) q.val (fun w => x (ix4 b 0 w ch)) (e (ix4 b 0 0 ch)) := by
  pointwise [k0_pay16, pay14_at]
  rw [word_y]
  have := q.isLt
  exact sides_of (fstY d) q (fun w => x (ix4 b 0 w ch)) (fun _ => e (ix4 b 0 0 ch)) (by omega) (by omega) (by omega) (by omega)

/-- The row kept for the next block. -/
theorem carOf_at (d : Dev nD) (x : FVec Ideal S2x16x256x128 .f32) (e : FVec Ideal S2x1x1x128 .f32) (b : Fin 2) (q : Fin 258) (ch : Fin 128) :
    carOf (F := Ideal) d x e (ix4 b 0 q ch)
      = sides (fstY d) q.val (fun w => x (ix4 b 15 w ch)) (e (ix4 b 0 0 ch)) := by
  pointwise [carOf, k0_pay6, k0_pay26, pay14_at]
  rw [word_y]
  have := q.isLt
  exact sides_of (fstY d) q (fun w => x (ix4 b 15 w ch)) (fun _ => e (ix4 b 0 0 ch)) (by omega) (by omega) (by omega) (by omega)

/-- The first and the last row block, told from the grid's word. -/
theorem word_first : ∀ t : Fin cfg0.N, 16 ≤ t.val → Scalar.cmpi .eq (jW (crd t)) 0#32 = if decide (t.val = 16) then 1#1 else 0#1 := by decide +kernel
theorem word_last : ∀ t : Fin cfg0.N, 16 ≤ t.val → Scalar.cmpi .eq (jW (crd t)) 15#32 = if decide (t.val = 31) then 1#1 else 0#1 := by decide +kernel

section Block

variable (t : Fin cfg0.N) (ht : 16 ≤ t.val) (d : Dev nD) (st : FVec Ideal S2x2x128 .f32) (x : FVec Ideal S2x16x256x128 .f32)
  (ce : FVec Ideal S2x16x1x128 .f32) (ct cb : FVec Ideal S2x1x1x128 .f32) (ro ca : FVec Ideal S2x1x258x128 .f32)
  (bo : FVec Ideal S1x2x256x128 .f32) (kk : FVec Ideal S3x3x128 .f32) (wp : FVec Ideal S128x128 .f32) (b : Fin 2)

include ht in
/-- The row above the block: the peer's edge row, or the block's own first row, or the row kept from the block before. -/
theorem topRow_at (q : Fin 258) (ch : Fin 128) : topRow (F := Ideal) (crd t) d st x ct ro ca (ix3 b q ch)
    = ((if t.val = 16 then (if d.val / 2 = 0 then sides (fstY d) q.val (fun w => x (ix4 b 0 w ch)) (ct (ix4 b 0 0 ch)) else ro (ix4 b 0 q ch))
        else ca (ix4 b 0 q ch)) - st (ix3 0 b ch)) * st (ix3 1 b ch) := by
  pointwise [topRow, k0_pay17, pay12_at, pay13_at, pay16_at]
  rw [word_first t ht, word_x1, sel]
  by_cases h : d.val / 2 = 0
  · rw [if_pos (show fstX d = true from decide_eq_true h), if_pos h]
    simp only [decide_eq_true_eq]; rfl
  · rw [if_neg (show ¬ fstX d = true from by simpa using h), if_neg h]
    simp only [decide_eq_true_eq]; rfl

include ht in
/-- The row below the block: the peer's edge row, or the row the host has set beside the block. -/
theorem botRow_at (q : Fin 258) (ch : Fin 128) : botRow (F := Ideal) (crd t) d cb ro bo (ix3 b q ch)
    = if t.val = 31 ∧ d.val / 2 = 0 then ro (ix4 b 0 q ch)
      else sides (fstY d) q.val (fun w => bo (ix4 0 b w ch)) (cb (ix4 b 0 0 ch)) := by
  pointwise [botRow, k0_pay18]
  have hq := q.isLt
  rw [word_last t ht, word_x0, word_y, sides_of (fstY d) q (fun w => bo (ix4 0 b w ch)) (fun _ => cb (ix4 b 0 0 ch)) (by omega) (by omega) (by omega) (by omega)]
  by_cases h : d.val / 2 = 0 <;> by_cases h' : t.val = 31 <;> simp only [h, h', fstX, decide_true, decide_false, if_true, if_false, and_self, and_true, and_false, true_and, false_and] <;> rfl

/-- The block padded on every side. -/
theorem pay20_at (mu rs : FVec Ideal S2x128 .f32) (mid : FVec Ideal S2x16x258x128 .f32) (top bot : FVec Ideal S2x258x128 .f32)
    (p : Fin 18) (q : Fin 258) (ch : Fin 128) :
    k0_pay20 (F := Ideal) rs mid top bot (k0_pay19 mu) (ix4 b p q ch)
      = if p.val < 1 then top (ix3 b q ch) else if h : p.val - 1 < 16 then mid (ix4 b ⟨p.val - 1, h⟩ q ch)
        else (bot (ix3 b q ch) - mu (ix2 b ch)) * rs (ix2 b ch) := by
  pointwise [k0_pay20, k0_pay19]
  rfl

/-- The block of the result, from the padded block. -/
theorem outOf_at (H : Fin 128 → ℕ → ℕ → EReal)
    (hH : ∀ (p : Fin 18) (q : Fin 258) (k : Fin 128),
      k0_pay20 (F := Ideal) (k0_pay13 st) (midRows d st x ce) (topRow (crd t) d st x ct ro ca) (botRow (crd t) d cb ro bo) (k0_pay19 (k0_pay12 st)) (ix4 b p q k)
        = H k p.val q.val)
    (r : Fin 16) (w : Fin 256) (ch : Fin 128) :
    outOf (F := Ideal) (crd t) d st x ce ct cb ro ca bo kk wp (ix4 b r w ch)
      = x (ix4 b r w ch) + ∑ k : Fin 128, Spec.act (Spec.conv (H k) (fun i j => kk (ix3 i j k)) r.val w.val) * wp (ix2 k ch) := by
  unfold outOf
  generalize hz : k0_pay20 (F := Ideal) (k0_pay13 st) (midRows d st x ce) (topRow (crd t) d st x ct ro ca) (botRow (crd t) d cb ro bo) (k0_pay19 (k0_pay12 st)) = Z at hH ⊢
  pointwise [k0_pay25, dot_S8192x128_S128x128_S8192x128_1_0_0_1_n_n, pay14_at, k0_pay21, k0_pay22, k0_pay23, k0_pay24, hz, hH]
  simp only [Spec.act, Spec.conv, Nat.add_comm 1, Nat.add_comm 2]

end Block

end Cert.KernelIdeal.Run

end
-- ==== Proof.Blocks.lean ====
/-
  The blocks the kernel reads, element by element: of the image at a point, of the two weights, and of the rows the host has set
  beside the blocks.
-/
module

public import proofs.«01_k».proof.Proof.Pay
public import Idealize.ShloMosaic.Lib.StableHlo.RunRead

@[expose] public section

noncomputable section

namespace Cert.KernelIdeal.Run

open Idealize.ShloMosaic Idealize.ShloMosaic.TcCoe Idealize.SL.Sem
open Cert.KernelIdeal Cert.KernelIdeal.Gen Cert.Steps

variable (m : (ℓ : Loc nD τ sig) → Buf (Elt Ideal) ℓ)

/-- The three arguments as a device holds them. -/
abbrev argX (c : Dev nD) : S2x256x256x128.Idx → EReal := m ((c : Thread nD τ).loc main_arg0)
abbrev argK (c : Dev nD) : S3x3x128.Idx → EReal := m ((c : Thread nD τ).loc main_arg1)
abbrev argW (c : Dev nD) : S128x128.Idx → EReal := m ((c : Thread nD τ).loc main_arg2)

theorem trans0 : ∀ t : Fin cfg0.N, cc0_transform_0 (crd t) = ![0, t.val % 16, 0, 0] := by decide +kernel
theorem trans1 : ∀ t : Fin cfg0.N, cc0_transform_1 (crd t) = ![0, 0, 0] := by decide +kernel
theorem trans2 : ∀ t : Fin cfg0.N, cc0_transform_2 (crd t) = ![0, 0] := by decide +kernel
theorem trans3 : ∀ t : Fin cfg0.N, cc0_transform_3 (crd t) = ![t.val - 16, 0, 0, 0] := by decide +kernel
theorem trans4 : ∀ t : Fin cfg0.N, cc0_transform_4 (crd t) = ![0, t.val - 16, 0, 0] := by decide +kernel

theorem xblk_at (c : Dev nD) (t : Fin cfg0.N) (b : Fin 2) (r : Fin 16) (w : Fin 256) (ch : Fin 128) :
    xblk (F := Ideal) m c t (ix4 b r w ch) = argX m c (ix4 b ⟨16 * (t.val % 16) + r.val, by omega⟩ w ch) := by
  unfold xblk iblk
  rw [show V m c (Pipeline.arrRef spec0 0) = argX m c from V_main_arg0 m c]
  refine congrArg (argX m c) (funext fun a => Fin.ext ?_)
  show cc0_transform_0 (crd t) a * S2x16x256x128.size a + 1 * ((ix4 b r w ch : S2x16x256x128.Idx) a).val = _
  rw [trans0]
  match a with
  | ⟨0, _⟩ => show 0 * 2 + 1 * b.val = b.val; omega
  | ⟨1, _⟩ => show (t.val % 16) * 16 + 1 * r.val = 16 * (t.val % 16) + r.val; omega
  | ⟨2, _⟩ => show 0 * 256 + 1 * w.val = w.val; omega
  | ⟨3, _⟩ => show 0 * 128 + 1 * ch.val = ch.val; omega

theorem kblk_at (c : Dev nD) (t : Fin cfg0.N) (i j : Fin 3) (ch : Fin 128) : kblk (F := Ideal) m c t (ix3 i j ch) = argK m c (ix3 i j ch) := by
  unfold kblk iblk
  rw [show V m c (Pipeline.arrRef spec0 1) = argK m c from V_main_arg1 m c]
  refine congrArg (argK m c) (funext fun a => Fin.ext ?_)
  show cc0_transform_1 (crd t) a * S3x3x128.size a + 1 * ((ix3 i j ch : S3x3x128.Idx) a).val = _
  rw [trans1]
  match a with
  | ⟨0, _⟩ => show 0 * 3 + 1 * i.val = i.val; omega
  | ⟨1, _⟩ => show 0 * 3 + 1 * j.val = j.val; omega
  | ⟨2, _⟩ => show 0 * 128 + 1 * ch.val = ch.val; omega

theorem wblk_at (c : Dev nD) (t : Fin cfg0.N) (i j : Fin 128) : wblk (F := Ideal) m c t (ix2 i j) = argW m c (ix2 i j) := by
  unfold wblk iblk
  rw [show V m c (Pipeline.arrRef spec0 2) = argW m c from V_main_arg2 m c]
  refine congrArg (argW m c) (funext fun a => Fin.ext ?_)
  show cc0_transform_2 (crd t) a * S128x128.size a + 1 * ((ix2 i j : S128x128.Idx) a).val = _
  rw [trans2]
  match a with
  | ⟨0, _⟩ => show 0 * 128 + 1 * i.val = i.val; omega
  | ⟨1, _⟩ => show 0 * 128 + 1 * j.val = j.val; omega

/-- The row numbers the host reads the rows beside the blocks at. -/
theorem lit_row : ∀ j : Fin 16, min (BitVec.toInt (Scalar.select (IntOp.cmpi .slt (lit0 (S16.rowMajor (ix1 j))) 0#32)
    (IntOp.addi (lit0 (S16.rowMajor (ix1 j))) 256#32) (lit0 (S16.rowMajor (ix1 j))))).toNat 255 = min (16 * (j.val + 1)) 255 := by decide +kernel

/-- The rows picked by an array of row numbers, element by element. -/
theorem pick_at (x : S2x256x256x128.Idx → EReal) (I : IVec S16x1 32) (b : Fin 2) (j : Fin 16) (w : Fin 256) (ch : Fin 128) :
    Host.gather gather_S2x256x256x128_S16x1_S2x16x256x128_023_1_n_n_1_1_21256128 x I (ix4 b j w ch)
      = x (ix4 b ⟨min (I (ix2 j 0)).toInt.toNat 255, by omega⟩ w ch) := by
  unfold Host.gather
  refine congrArg x (funext fun a => Fin.ext ?_)
  match a with
  | ⟨0, _⟩ =>
    show 0 + 0 + b.val = b.val
    omega
  | ⟨1, _⟩ =>
    show min (I _).toInt.toNat 255 + 0 + 0 = min (I (ix2 j 0)).toInt.toNat 255
    refine congrArg (fun i => min (I i).toInt.toNat 255) (funext fun z => Fin.ext ?_)
    match z with
    | ⟨0, _⟩ => rfl
    | ⟨1, _⟩ => rfl
  | ⟨2, _⟩ =>
    show 0 + 0 + w.val = w.val
    omega
  | ⟨3, _⟩ =>
    show 0 + 0 + ch.val = ch.val
    omega

theorem rows_at (c : Dev nD) (j : Fin 16) (b : Fin 2) (w : Fin 256) (ch : Fin 128) :
    (V m c main_v8 : S16x2x256x128.Idx → EReal) (ix4 j b w ch) = argX m c (ix4 b ⟨min (16 * (j.val + 1)) 255, by omega⟩ w ch) := by
  show StableHlo.after hostOps0 _ (Proc.devRef .tc main_v8) _ = _
  after_reads_simp
  pointwise [pick_at]
  have e := lit_row j
  exact congrArg (argX m c) ((ix4_inj _ _ _ _ _ _ _ _).mpr ⟨rfl, Fin.ext e, rfl, rfl⟩)

theorem bblk_at (c : Dev nD) (t : Fin cfg0.N) (b : Fin 2) (w : Fin 256) (ch : Fin 128) :
    bblk (F := Ideal) m c t (ix4 0 b w ch) = argX m c (ix4 b ⟨min (16 * (t.val - 16 + 1)) 255, by omega⟩ w ch) := by
  have h := lt32 t
  rw [← rows_at m c ⟨t.val - 16, by omega⟩ b w ch]
  unfold bblk iblk
  refine congrArg (V m c main_v8 : S16x2x256x128.Idx → EReal) (funext fun a => Fin.ext ?_)
  show cc0_transform_3 (crd t) a * S1x2x256x128.size a + 1 * ((ix4 0 b w ch : S1x2x256x128.Idx) a).val = _
  rw [trans3]
  match a with
  | ⟨0, _⟩ => show (t.val - 16) * 1 + 1 * 0 = t.val - 16; omega
  | ⟨1, _⟩ => show 0 * 2 + 1 * b.val = b.val; omega
  | ⟨2, _⟩ => show 0 * 256 + 1 * w.val = w.val; omega
  | ⟨3, _⟩ => show 0 * 128 + 1 * ch.val = ch.val; omega

end Cert.KernelIdeal.Run

end
-- ==== Proof.Stats.lean ====
/-
  The sums and the statistics: after its sixteen row blocks a device holds the sums over its own quarter of the image; after the
  exchange every device holds the mean and the reciprocal deviation of the whole image.
-/
module

public import proofs.«01_k».proof.Proof.Blocks

@[expose] public section

noncomputable section

namespace Cert.KernelIdeal.Run

open Idealize.ShloMosaic Idealize.ShloMosaic.TcCoe Idealize.SL.Sem
open Cert.KernelIdeal Cert.KernelIdeal.Gen Cert.Steps

variable (m : (ℓ : Loc nD τ sig) → Buf (Elt Ideal) ℓ) (X : Spec.Img)

/-- Every device starts from its quarter of the image `X`. -/
def Holds : Prop := ∀ (c : Dev nD) (b : Fin 2) (r w : Fin 256) (ch : Fin 128),
  argX m c (ix4 b r w ch) = Spec.px X b (256 * (c.val / 2) + r.val + 1) (256 * (c.val % 2) + w.val + 1) ch

theorem pX_div (c : Dev nD) : (pX c).val / 2 = 1 - c.val / 2 := by revert c; decide
theorem pX_mod (c : Dev nD) : (pX c).val % 2 = c.val % 2 := by revert c; decide
theorem pY_div (c : Dev nD) : (pY c).val / 2 = c.val / 2 := by revert c; decide
theorem pY_mod (c : Dev nD) : (pY c).val % 2 = 1 - c.val % 2 := by revert c; decide
theorem div_lt (c : Dev nD) : c.val / 2 < 2 := by revert c; decide
theorem mod_lt (c : Dev nD) : c.val % 2 < 2 := by revert c; decide

/-- What is summed: the entries, or their squares. -/
def summand (s b : Fin 2) (ch : Fin 128) : ℕ → ℕ → EReal :=
  if s.val < 1 then fun p q => Spec.px X b p q ch else fun p q => Spec.px X b p q ch * Spec.px X b p q ch

variable {m X}

theorem xblk_px (h : Holds m X) (c : Dev nD) (t : Fin cfg0.N) (b : Fin 2) (r : Fin 16) (w : Fin 256) (ch : Fin 128) :
    xblk (F := Ideal) m c t (ix4 b r w ch)
      = Spec.px X b (256 * (c.val / 2) + (16 * (t.val % 16) + r.val) + 1) (256 * (c.val % 2) + w.val + 1) ch := by
  rw [xblk_at, h]

/-- The sums after `n` row blocks: over the first `16 n` rows of the device's quarter. -/
theorem accAt_at (h : Holds m X) (c : Dev nD) (s b : Fin 2) (ch : Fin 128) : ∀ n : ℕ, n ≤ 16 →
    accAt (F := Ideal) m c n (ix3 s b ch) = Spec.box (summand X s b ch) (256 * (c.val / 2)) (16 * n) (256 * (c.val % 2)) 256
  | 0, _ => by
    show k0_pay1 (F := Ideal) _ = _
    rw [pay1_at]; simp [Spec.box]
  | n + 1, hn => by
    show k0_pay2 (F := Ideal) _ _ _ = _
    rw [pay2_at, accAt_at h c s b ch n (by omega), Nat.mul_add, Nat.mul_one, Spec.box_rows, ← Spec.box_fin (summand X s b ch) (256 * (c.val / 2) + 16 * n)]
    have e : (pt n).val % 16 = n := by show min n 31 % 16 = n; omega
    simp only [xblk_px h, e, summand]
    congr 1
    split <;> simp only [Nat.add_assoc]

theorem sumOf_at (h : Holds m X) (c : Dev nD) (s b : Fin 2) (ch : Fin 128) :
    sumOf (F := Ideal) m c (ix3 s b ch) = Spec.box (summand X s b ch) (256 * (c.val / 2)) 256 (256 * (c.val % 2)) 256 := by
  unfold sumOf
  rw [pay7_at, accAt_at h c s b ch 16 (Nat.le_refl _)]

theorem sums_whole (h : Holds m X) (c : Dev nD) (s b : Fin 2) (ch : Fin 128) :
    k0_pay9 (F := Ideal) (sum2Of m c) (sum2Of m (pY c)) (ix3 s b ch) = Spec.box (summand X s b ch) 0 512 0 512 := by
  rw [pay9_at]
  unfold sum2Of
  rw [pay8_at, pay8_at, sumOf_at h, sumOf_at h, sumOf_at h, sumOf_at h, pX_div, pX_mod, pX_div, pX_mod, pY_div, pY_mod]
  exact Spec.box_quarters _ _ _ (div_lt c) (mod_lt c)

/-- The statistics every device works with. -/
theorem stat_mean (h : Holds m X) (c : Dev nD) (b : Fin 2) (ch : Fin 128) : statOf (F := Ideal) m c (ix3 0 b ch) = Spec.mean X b ch := by
  unfold statOf
  rw [(pay10_at _ b ch).1, sums_whole h]
  rfl
theorem stat_rstd (h : Holds m X) (c : Dev nD) (b : Fin 2) (ch : Fin 128) : statOf (F := Ideal) m c (ix3 1 b ch) = Spec.rstd X b ch := by
  unfold statOf
  rw [(pay10_at _ b ch).2, sums_whole h, sums_whole h]
  rfl

end Cert.KernelIdeal.Run

end
-- ==== Proof.Halo.lean ====
/-
  The rows and columns a device has beside its quarter, from its peers, and with them the block the device stores at a point: the
  block of the result of the whole image.
-/
module

public import proofs.«01_k».proof.Proof.Stats

@[expose] public section

noncomputable section

namespace Cert.KernelIdeal.Run

open Idealize.ShloMosaic Idealize.ShloMosaic.TcCoe Idealize.SL.Sem
open Cert.KernelIdeal Cert.KernelIdeal.Gen Cert.Steps

variable {m : (ℓ : Loc nD τ sig) → Buf (Elt Ideal) ℓ} {X : Spec.Img}

/-- The column of the bordered image that lies beside a device's quarter, in the other mesh column. -/
abbrev beside (c : Dev nD) : ℕ := if c.val % 2 = 0 then 257 else 256

/-- A row of the device's quarter with the column beside it, and with its own border column repeated, is a row of the bordered
    image. -/
theorem sides_px (c : Dev nD) (b : Fin 2) (p : ℕ) (q : Fin 258) (ch : Fin 128) (row : Fin 256 → EReal) (e : EReal)
    (hr : ∀ w, row w = Spec.px X b p (256 * (c.val % 2) + w.val + 1) ch) (he : e = Spec.px X b p (beside c) ch) :
    sides (fstY c) q.val row e = Spec.px X b p (256 * (c.val % 2) + q.val) ch := by
  have hq := q.isLt
  have hm := mod_lt c
  unfold sides
  have col : ∀ a d : ℕ, min (a - 1) 511 = min (d - 1) 511 → Spec.px X b p a ch = Spec.px X b p d ch := fun a d h => by
    unfold Spec.px; rw [Spec.cl_congr h]
  by_cases h0 : c.val % 2 = 0
  · rw [if_pos (show fstY c = true from decide_eq_true h0), if_pos (show fstY c = true from decide_eq_true h0)]
    rw [show beside c = 257 from if_pos h0] at he
    split
    · rw [hr]; exact col _ _ (by show min (256 * (c.val % 2) + 0 + 1 - 1) 511 = _; omega)
    · split
      · rw [hr]; exact col _ _ (by show min (256 * (c.val % 2) + (q.val - 1) + 1 - 1) 511 = _; omega)
      · rw [he]; exact col _ _ (by omega)
  · have hf : ¬ fstY c = true := by simpa using h0
    rw [if_neg hf, if_neg hf]
    rw [show beside c = 256 from if_neg h0] at he
    split
    · rw [he]; exact col _ _ (by omega)
    · split
      · rw [hr]; exact col _ _ (by show min (256 * (c.val % 2) + (q.val - 1) + 1 - 1) 511 = _; omega)
      · rw [hr]; exact col _ _ (by show min (256 * (c.val % 2) + 255 + 1 - 1) 511 = _; omega)

theorem colH_at (h : Holds m X) (c : Dev nD) (b : Fin 2) (r : Fin 256) (ch : Fin 128) :
    colH (F := Ideal) m c (ix4 b r 0 ch) = Spec.px X b (256 * (c.val / 2) + r.val + 1) (beside c) ch := by
  have hr := r.isLt
  show xblk m (pY c) (pt (r.val / 16)) (ValueIdx.ix4 b ⟨r.val % 16, _⟩ (colOf (pY c)) ch) = _
  rw [← ix4_eq_valueIdx, xblk_px h, pY_div, pY_mod]
  have e : (pt (r.val / 16)).val = r.val / 16 := by show min _ 31 = _; omega
  have ec : 256 * (1 - c.val % 2) + (colOf (pY c)).val + 1 = beside c := by
    unfold colOf beside
    have := mod_lt c
    rw [pY_mod]
    by_cases h0 : c.val % 2 = 0
    · rw [h0]; rfl
    · rw [show c.val % 2 = 1 by omega]; rfl
  rw [e, ec]
  congr 1
  show 256 * (c.val / 2) + (16 * (r.val / 16 % 16) + r.val % 16) + 1 = _
  omega

theorem colRow_at (h : Holds m X) (c : Dev nD) (r : Fin 256) (b : Fin 2) (ch : Fin 128) :
    colRow (F := Ideal) r (colH m c) (ix4 b 0 0 ch) = Spec.px X b (256 * (c.val / 2) + r.val + 1) (beside c) ch := by
  show colH m c (ValueIdx.ix4 b r 0 ch) = _
  rw [← ix4_eq_valueIdx, colH_at h]

theorem colRows_at (h : Holds m X) (c : Dev nD) (n : Fin 16) (b : Fin 2) (p : Fin 16) (ch : Fin 128) :
    colRows (F := Ideal) n (colH m c) (ix4 b p 0 ch) = Spec.px X b (256 * (c.val / 2) + (16 * n.val + p.val) + 1) (beside c) ch := by
  show colH m c (ValueIdx.ix4 b ⟨16 * n.val + p.val, _⟩ 0 ch) = _
  rw [← ix4_eq_valueIdx, colH_at h]

/-- The edge row with its corners, as the device sends it; the row beside the device's quarter, as it receives it. -/
theorem extOf_at (h : Holds m X) (c : Dev nD) (b : Fin 2) (q : Fin 258) (ch : Fin 128) :
    extOf (F := Ideal) m c (ix4 b 0 q ch)
      = Spec.px X b (256 * (c.val / 2) + (if c.val / 2 = 0 then 255 else 0) + 1) (256 * (c.val % 2) + q.val) ch := by
  unfold extOf
  rw [ext_at]
  refine sides_px c b _ q ch _ _ (fun w => ?_) ?_
  · show xblk m c (pt (rowPt c)) (ValueIdx.ix4 b (rowOf c) w ch) = _
    rw [← ix4_eq_valueIdx, xblk_px h]
    congr 1
    unfold rowPt rowOf
    split <;> rfl
  · rw [colRow_at h]
    congr 1
    unfold cornRow
    split <;> rfl

theorem rowH_at (h : Holds m X) (c : Dev nD) (b : Fin 2) (q : Fin 258) (ch : Fin 128) :
    rowH (F := Ideal) m c (ix4 b 0 q ch) = Spec.px X b (if c.val / 2 = 0 then 257 else 256) (256 * (c.val % 2) + q.val) ch := by
  unfold rowH
  rw [extOf_at h, pX_div, pX_mod]
  congr 1
  have := div_lt c
  by_cases h0 : c.val / 2 = 0
  · rw [h0]; rfl
  · rw [show c.val / 2 = 1 by omega]; rfl

/-- The row kept from the block before. -/
theorem carAt_at (h : Holds m X) (c : Dev nD) (n : ℕ) (h1 : 16 < n) (h2 : n < 32) (b : Fin 2) (q : Fin 258) (ch : Fin 128) :
    carAt (F := Ideal) m c n (ix4 b 0 q ch) = Spec.px X b (256 * (c.val / 2) + 16 * (n - 16)) (256 * (c.val % 2) + q.val) ch := by
  unfold carAt
  rw [carOf_at]
  refine sides_px c b _ q ch _ _ (fun w => ?_) ?_
  · show xblk m c _ (ix4 b 15 w ch) = _
    rw [xblk_px h]
    congr 1
    show 256 * (c.val / 2) + (16 * (min (n - 1) 31 % 16) + 15) + 1 = _
    omega
  · rw [colRow_at h]
    congr 1
    show 256 * (c.val / 2) + min (16 * (n - 1 - 16) + 15) 255 + 1 = _
    omega

/-- Rows beyond the border are the border's. -/
theorem px_row (b : Fin 2) {a d : ℕ} (e : ℕ) (ch : Fin 128) (h : min (a - 1) 511 = min (d - 1) 511) : Spec.px X b a e ch = Spec.px X b d e ch := by
  unfold Spec.px; rw [Spec.cl_congr h]

/-- The row above the block. -/
theorem top_px (h : Holds m X) (c : Dev nD) (t : Fin cfg0.N) (ht : 16 ≤ t.val) (b : Fin 2) (q : Fin 258) (ch : Fin 128) :
    (if t.val = 16 then (if c.val / 2 = 0 then sides (fstY c) q.val (fun w => xblk (F := Ideal) m c t (ix4 b 0 w ch)) (colRow 0 (colH m c) (ix4 b 0 0 ch))
        else rowH m c (ix4 b 0 q ch)) else carAt m c t.val (ix4 b 0 q ch))
      = Spec.px X b (256 * (c.val / 2) + 16 * (t.val - 16)) (256 * (c.val % 2) + q.val) ch := by
  have h32 := lt32 t
  have hd := div_lt c
  split
  · split
    · refine (sides_px c b (256 * (c.val / 2) + 1) q ch _ _ (fun w => ?_) ?_).trans (px_row b _ ch (by omega))
      · rw [xblk_px h]; exact px_row b _ ch (by show min (256 * (c.val / 2) + (16 * (t.val % 16) + 0) + 1 - 1) 511 = _; omega)
      · rw [colRow_at h]; rfl
    · rename_i h0
      rw [rowH_at h, if_neg h0]
      exact px_row b _ ch (by omega)
  · exact carAt_at h c _ (by omega) h32 b q ch

/-- The block's own rows, with the columns beside them. -/
theorem mid_px (h : Holds m X) (c : Dev nD) (t : Fin cfg0.N) (ht : 16 ≤ t.val) (b : Fin 2) (p : Fin 16) (q : Fin 258) (ch : Fin 128) :
    sides (fstY c) q.val (fun w => xblk (F := Ideal) m c t (ix4 b p w ch)) (colRows (jOf t.val) (colH m c) (ix4 b p 0 ch))
      = Spec.px X b (256 * (c.val / 2) + 16 * (t.val - 16) + (p.val + 1)) (256 * (c.val % 2) + q.val) ch := by
  have h32 := lt32 t
  refine sides_px c b _ q ch _ _ (fun w => ?_) ?_
  · rw [xblk_px h]; exact px_row b _ ch (by omega)
  · rw [colRows_at h]; exact px_row b _ ch (by show min (256 * (c.val / 2) + (16 * ((t.val - 16) % 16) + p.val) + 1 - 1) 511 = _; omega)

/-- The row below the block. -/
theorem bot_px (h : Holds m X) (c : Dev nD) (t : Fin cfg0.N) (ht : 16 ≤ t.val) (b : Fin 2) (q : Fin 258) (ch : Fin 128) :
    (if t.val = 31 ∧ c.val / 2 = 0 then rowH (F := Ideal) m c (ix4 b 0 q ch)
      else sides (fstY c) q.val (fun w => bblk m c t (ix4 0 b w ch)) (colRow (belRow t.val) (colH m c) (ix4 b 0 0 ch)))
      = Spec.px X b (256 * (c.val / 2) + 16 * (t.val - 16) + 17) (256 * (c.val % 2) + q.val) ch := by
  have h32 := lt32 t
  have hd := div_lt c
  split
  · rename_i hc
    rw [rowH_at h, if_pos hc.2]
    exact px_row b _ ch (by have := hc.1; have := hc.2; omega)
  · rename_i hc
    refine (sides_px c b (256 * (c.val / 2) + min (16 * (t.val - 16 + 1)) 255 + 1) q ch _ _ (fun w => ?_) ?_).trans (px_row b _ ch (by omega))
    · rw [bblk_at, h]
    · rw [colRow_at h]; exact px_row b _ ch (by show min (256 * (c.val / 2) + min (16 * (t.val - 15)) 255 + 1 - 1) 511 = _; omega)

/-- The padded, normalised block of a point is the piece of the bordered, normalised image. -/
theorem padded_at (h : Holds m X) (c : Dev nD) (t : Fin cfg0.N) (ht : 16 ≤ t.val) (b : Fin 2) (p : Fin 18) (q : Fin 258) (ch : Fin 128) :
    k0_pay20 (F := Ideal) (k0_pay13 (statOf m c)) (midRows c (statOf m c) (xblk m c t) (colRows (jOf t.val) (colH m c)))
        (topRow (crd t) c (statOf m c) (xblk m c t) (colRow 0 (colH m c)) (rowH m c) (carAt m c t.val))
        (botRow (crd t) c (colRow (belRow t.val) (colH m c)) (rowH m c) (bblk m c t)) (k0_pay19 (k0_pay12 (statOf m c))) (ix4 b p q ch)
      = Spec.hat X b (256 * (c.val / 2) + 16 * (t.val - 16) + p.val) (256 * (c.val % 2) + q.val) ch := by
  have hp := p.isLt
  unfold Spec.hat
  rw [pay20_at]
  split
  · rw [topRow_at t ht, stat_mean h, stat_rstd h, top_px h c t ht]
    rw [show p.val = 0 by omega, Nat.add_zero]
  · split
    · rename_i h1 h2
      unfold midRows
      rw [pay15_at, stat_mean h, stat_rstd h, mid_px h c t ht]
      rw [show p.val - 1 + 1 = p.val by omega]
    · rename_i h1 h2
      rw [botRow_at t ht, pay12_at, pay13_at, stat_mean h, stat_rstd h, bot_px h c t ht]
      rw [show p.val = 17 by omega]

/-- The block the device stores at a point. -/
theorem outAt_at (h : Holds m X) (K : Fin 3 → Fin 3 → Fin 128 → EReal) (W : Fin 128 → Fin 128 → EReal) (c : Dev nD)
    (hK : ∀ i j ch, argK m c (ix3 i j ch) = K i j ch) (hW : ∀ i j, argW m c (ix2 i j) = W i j)
    (t : Fin cfg0.N) (ht : 16 ≤ t.val) (b : Fin 2) (r : Fin 16) (w : Fin 256) (ch : Fin 128) :
    outAt (F := Ideal) m c t (ix4 b r w ch)
      = Spec.out X K W b (256 * (c.val / 2) + 16 * (t.val - 16) + r.val) (256 * (c.val % 2) + w.val) ch := by
  have h32 := lt32 t
  unfold outAt outWith
  rw [outOf_at t c _ _ _ _ _ _ _ _ _ _ b
    (fun k p q => Spec.hat X b (256 * (c.val / 2) + 16 * (t.val - 16) + p) (256 * (c.val % 2) + q) k) (padded_at h c t ht b)]
  unfold Spec.out
  have e : 16 * (t.val % 16) = 16 * (t.val - 16) := by omega
  rw [xblk_px h, e]
  simp only [kblk_at, wblk_at, hK, hW, Spec.conv, Nat.add_assoc]

end Cert.KernelIdeal.Run

end
-- ==== Proof.Result.lean ====
/-
  The result array of a device once every block has been written back: its quarter of the result of the whole image.
-/
module

public import proofs.«01_k».proof.Proof.Halo
public import proofs.«01_k».proof.Proof.Region

@[expose] public section

noncomputable section

namespace Cert.KernelIdeal.Run

open Idealize.ShloMosaic Idealize.ShloMosaic.TcCoe Idealize.SL.Sem
open Cert.KernelIdeal Cert.KernelIdeal.Gen Cert.Steps

variable {m : (ℓ : Loc nD τ sig) → Buf (Elt Ideal) ℓ} {X : Spec.Img}

theorem flush_late : ∀ t : Fin cfg0.N, (win0 4).flush t = true ↔ 16 ≤ t.val :=
  (by decide +kernel : ∀ t : Fin grid0.N, win0_4.flush t = true ↔ 16 ≤ t.val)

/-- A device's quarter of the result. -/
def quarter (X : Spec.Img) (K : Fin 3 → Fin 3 → Fin 128 → EReal) (W : Fin 128 → Fin 128 → EReal) (c : Dev nD) :
    S2x256x256x128.Idx → EReal := fun i =>
  Spec.out X K W (i 0) (256 * (c.val / 2) + (i 1).val) (256 * (c.val % 2) + (i 2).val) (i 3)

/-- Where a block of the result lies. -/
theorem emb4 (t : Fin cfg0.N) (b : Fin 2) (r : Fin 16) (w : Fin 256) (ch : Fin 128) (h : 16 * (t.val - 16) + r.val < 256) :
    ((win0 4).blk t).view.emb (ix4 b r w ch : S2x16x256x128.Idx) = (ix4 b ⟨16 * (t.val - 16) + r.val, h⟩ w ch : S2x256x256x128.Idx) := by
  funext a
  apply Fin.ext
  show cc0_transform_4 (crd t) a * S2x16x256x128.size a + 1 * ((ix4 b r w ch : S2x16x256x128.Idx) a).val = _
  rw [trans4]
  match a with
  | ⟨0, _⟩ => show 0 * 2 + 1 * b.val = b.val; omega
  | ⟨1, _⟩ => show (t.val - 16) * 16 + 1 * r.val = 16 * (t.val - 16) + r.val; omega
  | ⟨2, _⟩ => show 0 * 256 + 1 * w.val = w.val; omega
  | ⟨3, _⟩ => show 0 * 128 + 1 * ch.val = ch.val; omega

/-- The block a point stores is the block of the quarter of the result. -/
theorem stored_at (h : Holds m X) (K : Fin 3 → Fin 3 → Fin 128 → EReal) (W : Fin 128 → Fin 128 → EReal) (c : Dev nD)
    (hK : ∀ i j ch, argK m c (ix3 i j ch) = K i j ch) (hW : ∀ i j, argW m c (ix2 i j) = W i j)
    (t : Fin cfg0.N) (ht : 16 ≤ t.val) (b : Fin 2) (r : Fin 16) (w : Fin 256) (ch : Fin 128) :
    outAt (F := Ideal) m c t (ix4 b r w ch) = quarter X K W c (((win0 4).blk t).view.emb (ix4 b r w ch : S2x16x256x128.Idx)) := by
  have h32 := lt32 t
  rw [emb4 t b r w ch (by omega), outAt_at h K W c hK hW t ht]
  show _ = Spec.out X K W b (256 * (c.val / 2) + (16 * (t.val - 16) + r.val)) (256 * (c.val % 2) + w.val) ch
  rw [Nat.add_assoc]

/-- The result array of a device. -/
theorem result_at (h : Holds m X) (K : Fin 3 → Fin 3 → Fin 128 → EReal) (W : Fin 128 → Fin 128 → EReal) (c : Dev nD)
    (hK : ∀ i j ch, argK m c (ix3 i j ch) = K i j ch) (hW : ∀ i j, argW m c (ix2 i j) = W i j) :
    (dat0 (F := Ideal) m c).arrAt 4 cfg0.N = quarter X K W c := by
  refine (dat0 m c).arrAt_eq_of_cover 4 (quarter X K W c) (fun t hf => ?_) (fun i => ?_)
  · have ht := (flush_late t).mp hf
    funext x
    obtain ⟨b, r, w, ch, rfl⟩ : ∃ (b : Fin 2) (r : Fin 16) (w : Fin 256) (ch : Fin 128), x = (ix4 b r w ch : S2x16x256x128.Idx) :=
      ⟨x 0, x 1, x 2, x 3, eq_ix4 (n0 := 2) (n1 := 16) (n2 := 256) (n3 := 128) x⟩
    exact stored_at h K W c hK hW t ht b r w ch
  · have hi : (i 1).val < 256 := (i 1).isLt
    have hN : 16 + (i 1).val / 16 < cfg0.N := by show _ < grid0.N; rw [N_0]; omega
    refine ⟨⟨16 + (i 1).val / 16, hN⟩, (flush_late _).mpr (by show 16 ≤ 16 + _; omega), ?_⟩
    have e := emb4 ⟨16 + (i 1).val / 16, hN⟩ (i 0) ⟨(i 1).val % 16, by omega⟩ (i 2) (i 3) (by show 16 * (16 + (i 1).val / 16 - 16) + (i 1).val % 16 < 256; omega)
    have e' : (ix4 (i 0) ⟨16 * (16 + (i 1).val / 16 - 16) + (i 1).val % 16, by omega⟩ (i 2) (i 3) : S2x256x256x128.Idx) = i := by
      refine Eq.trans ?_ (eq_ix4 (n0 := 2) (n1 := 256) (n2 := 256) (n3 := 128) i).symm
      exact (ix4_inj _ _ _ _ _ _ _ _).mpr ⟨rfl, Fin.ext (by show 16 * (16 + (i 1).val / 16 - 16) + (i 1).val % 16 = (i 1).val; omega), rfl, rfl⟩
    exact (e.trans e').subst (motive := fun z => z ∈ ((win0 4).blk ⟨16 + (i 1).val / 16, hN⟩).view.set) (View.emb_mem_set _ _)

end Cert.KernelIdeal.Run

end
-- ==== Proof.Spread.lean ====
/-
  The two ways of normalising agree on an image of real numbers: the mean of the squares less the square of the mean is the mean
  of the squared distances from the mean, and dividing by the deviation is multiplying by its reciprocal. The two ways of writing
  the activation agree everywhere.
-/
module

public import proofs.«01_k».proof.Proof.Spec

@[expose] public section

noncomputable section

namespace Cert.Spec

open Idealize.ShloMosaic

theorem npx_eq : npx = ((262144 : ℝ) : EReal) := by
  unfold npx
  simp [Ideal.ofBits, Ideal.ieee, -EReal.coe_mul]; norm_num

theorem eps_pos : ∃ e : ℝ, 0 < e ∧ eps = (e : EReal) := by
  refine ⟨(2 ^ 23 + 2606508 : ℝ) * (2 : ℝ) ^ (-40 : ℤ), by positivity, ?_⟩
  unfold eps
  simp [Ideal.ofBits, Ideal.ieee, -EReal.coe_mul]; norm_num

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_sum2 {n k : ℕ} (f : Fin n → Fin k → ℝ) : ∑ r, ∑ w, ((f r w : ℝ) : EReal) = ((∑ r, ∑ w, f r w : ℝ) : EReal) := by
  rw [← coe_sum]; exact Finset.sum_congr rfl fun r _ => coe_sum _ _

/-- The mean of the squares less the square of the mean. -/
theorem spread_real (f : Fin 512 → Fin 512 → ℝ) :
    (∑ r, ∑ w, f r w * f r w) / 262144 - (∑ r, ∑ w, f r w) / 262144 * ((∑ r, ∑ w, f r w) / 262144)
      = (∑ r, ∑ w, (f r w - (∑ r, ∑ w, f r w) / 262144) * (f r w - (∑ r, ∑ w, f r w) / 262144)) / 262144 := by
  generalize hS : ∑ r, ∑ w, f r w = S
  have e : ∀ r w, (f r w - S / 262144) * (f r w - S / 262144) = f r w * f r w - 2 * (S / 262144) * f r w + S / 262144 * (S / 262144) := fun r w => by ring
  simp only [e, Finset.sum_add_distrib, Finset.sum_sub_distrib, ← Finset.mul_sum, hS, Finset.sum_const, Finset.card_univ, Fintype.card_fin, nsmul_eq_mul]
  push_cast
  ring

variable {X : Img} {f : Fin 2 → Fin 512 → Fin 512 → Fin 128 → ℝ}

/-- The whole box is the sum over the image. -/
theorem whole (g : Fin 512 → Fin 512 → EReal) : box (fun p q => g (cl p) (cl q)) 0 512 0 512 = ∑ r, ∑ w, g r w := by
  rw [← box_fin]
  refine Finset.sum_congr rfl fun r _ => Finset.sum_congr rfl fun w _ => ?_
  have e : ∀ r : Fin 512, cl (0 + r.val + 1) = r := fun r => Fin.ext (by show min (0 + r.val + 1 - 1) 511 = r.val; have := r.isLt; omega)
  rw [e, e]

theorem total_eq (X : Img) (b : Fin 2) (ch : Fin 128) : total X b ch = ∑ r, ∑ w, X b r w ch := whole fun r w => X b r w ch
theorem totalSq_eq (X : Img) (b : Fin 2) (ch : Fin 128) : totalSq X b ch = ∑ r, ∑ w, X b r w ch * X b r w ch := whole fun r w => X b r w ch * X b r w ch

/-- On a real image, the normalised pixel from the squared distances is the one from the mean of the squares. -/
theorem normal (hX : ∀ b r w ch, X b r w ch = (f b r w ch : EReal)) (b : Fin 2) (r w : Fin 512) (ch : Fin 128) :
    Ideal.div (X b r w ch - mean X b ch)
        (Ideal.sqrt (Ideal.div (∑ r, ∑ w, (X b r w ch - mean X b ch) * (X b r w ch - mean X b ch)) npx + eps))
      = (X b r w ch - mean X b ch) * rstd X b ch := by
  obtain ⟨e, he, hE⟩ := eps_pos
  have hn : (262144 : ℝ) ≠ 0 := by norm_num
  have hm : mean X b ch = (((∑ r, ∑ w, f b r w ch) / 262144 : ℝ) : EReal) := by
    unfold mean
    rw [total_eq, npx_eq, Ideal.div_coe hn]
    simp only [hX]
    rw [coe_sum2, ← EReal.coe_mul, mul_one_div]
  have hv : Ideal.div (∑ r, ∑ w, (X b r w ch - mean X b ch) * (X b r w ch - mean X b ch)) npx
      = (((∑ r, ∑ w, (f b r w ch - (∑ r, ∑ w, f b r w ch) / 262144) * (f b r w ch - (∑ r, ∑ w, f b r w ch) / 262144)) / 262144 : ℝ) : EReal) := by
    rw [npx_eq, Ideal.div_coe hn, hm]
    simp only [hX, ← EReal.coe_sub, ← EReal.coe_mul]
    rw [coe_sum2, ← EReal.coe_mul, mul_one_div]
  have hq : Ideal.div (totalSq X b ch) npx - mean X b ch * mean X b ch
      = (((∑ r, ∑ w, (f b r w ch - (∑ r, ∑ w, f b r w ch) / 262144) * (f b r w ch - (∑ r, ∑ w, f b r w ch) / 262144)) / 262144 : ℝ) : EReal) := by
    rw [← spread_real, totalSq_eq, npx_eq, Ideal.div_coe hn, hm]
    simp only [hX, ← EReal.coe_mul]
    rw [coe_sum2, ← EReal.coe_mul, mul_one_div, ← EReal.coe_sub]
  unfold rstd
  rw [hv, hq, hE, ← EReal.coe_add]
  have h0 : 0 ≤ (∑ r, ∑ w, (f b r w ch - (∑ r, ∑ w, f b r w ch) / 262144) * (f b r w ch - (∑ r, ∑ w, f b r w ch) / 262144)) / 262144 :=
    div_nonneg (Finset.sum_nonneg fun r _ => Finset.sum_nonneg fun w _ => mul_self_nonneg _) (by norm_num)
  generalize (∑ r, ∑ w, (f b r w ch - (∑ r, ∑ w, f b r w ch) / 262144) * (f b r w ch - (∑ r, ∑ w, f b r w ch) / 262144)) / 262144 = v at h0 ⊢
  have hp : 0 < v + e := by linarith
  rw [Ideal.sqrt_coe, Ideal.rsqrt_coe, if_neg (not_lt.mpr hp.le), if_neg (not_lt.mpr hp.le), if_neg hp.ne',
    Ideal.div_coe (Real.sqrt_ne_zero'.mpr hp), one_div]

theorem exp_nonneg (z : EReal) : 0 ≤ Ideal.exp z := by
  induction z with
  | bot => exact le_refl _
  | top => exact le_top
  | coe r => exact EReal.coe_nonneg.mpr (Real.exp_pos r).le

/-- The activation as a quotient. -/
theorem act_div (z : EReal) : Ideal.div z (1 + Ideal.exp (-z)) = act z := by
  have h : (1 : EReal) + Ideal.exp (-z) ≠ 0 := by
    have : (0 : EReal) < 1 + Ideal.exp (-z) := lt_of_lt_of_le zero_lt_one (le_add_of_nonneg_right (exp_nonneg _))
    exact this.ne'
  unfold act Ideal.logistic Ideal.div
  rw [if_neg h, if_neg h, one_mul]

end Cert.Spec

end
-- ==== Proof.Reference.lean ====
/-
  What the reference computes, element by element: the mean and the spread of the image, the normalised image with its border
  repeated, the three by three sum, the result.
-/
module

public import proofs.«01_k».proof.Proof.Gen.ReferenceIdeal.Read
public import proofs.«01_k».proof.Proof.Spread

@[expose] public section

noncomputable section

namespace Cert.ReferenceIdeal.Read

open Idealize.ShloMosaic Idealize.ShloMosaic.TcCoe Idealize.SL.Sem
open Cert Cert.ReferenceIdeal Cert.ReferenceIdeal.Gen

variable (x : FVec Ideal S2x512x512x128 .f32) (k : FVec Ideal S3x3x128 .f32) (wp : FVec Ideal S128x128 .f32)

/-- The reference's image. -/
abbrev img : Spec.Img := fun b r w ch => x (ix4 b r w ch)

/-- The mean. -/
theorem mean_at (b : Fin 2) (ch : Fin 128) : val_main_v3 (F := Ideal) x (ix4 b 0 0 ch) = Spec.mean (img x) b ch := by
  unfold Spec.mean
  rw [Spec.total_eq]
  pointwise [val_main_v3, val_main_v2, val_main_v1, val_main_v0, val_main_cst, val_main_cst_0, Spec.hostReduceAdd_middle]

theorem count_pos : (0 : EReal) < Ideal.ofBits .f32 0x48800000#32 := by
  have h := Spec.npx_eq
  unfold Spec.npx at h
  rw [h]
  exact EReal.coe_pos.mpr (by norm_num)

theorem count_less : Ideal.ofBits .f32 0x48800000#32 - FloatOps.sitofp (F := Ideal) .f32 (0#32) = Ideal.ofBits .f32 0x48800000#32 := by
  have e : FloatOps.sitofp (F := Ideal) .f32 (0#32) = (0 : EReal) := by
    show (((0#32 : BitVec 32).toInt : ℝ) : EReal) = 0
    simp
  rw [e, sub_zero]

/-- The mean of the squared distances from the mean. -/
theorem var_at (b : Fin 2) (ch : Fin 128) :
    val_main_v4 (F := Ideal) x (ix4 b 0 0 ch)
      = Ideal.div (∑ r : Fin 512, ∑ w : Fin 512, (img x b r w ch - Spec.mean (img x) b ch) * (img x b r w ch - Spec.mean (img x) b ch)) Spec.npx := by
  unfold Spec.mean
  rw [Spec.total_eq]
  pointwise [val_main_v4, val_main_c, val_main_call0_cst, val_main_call0_v0, val_main_call0_v1, val_main_call0_cst_0, val_main_call0_v2,
    val_main_call0_v3, val_main_call0_v4, val_main_call0_v5, val_main_call0_v6, val_main_call0_v7, val_main_call0_cst_1, val_main_call0_v8,
    val_main_call0_cst_2, val_main_call0_v9, val_main_call0_v10, val_main_call0_v11, val_main_call0_v12, val_main_call0_cst_3,
    val_main_call0_v13, val_main_call0_cst_4, val_main_call0_call0_v0, val_main_call0_call0_v1, Spec.hostReduceAdd_middle]
  rw [count_less, if_pos count_pos]

/-- The normalised image, the image being one of real numbers. -/
theorem hat_at (f : Fin 2 → Fin 512 → Fin 512 → Fin 128 → ℝ) (hf : ∀ b r w ch, x (ix4 b r w ch) = (f b r w ch : EReal))
    (b : Fin 2) (r w : Fin 512) (ch : Fin 128) :
    val_main_v11 (F := Ideal) x (ix4 b r w ch) = (img x b r w ch - Spec.mean (img x) b ch) * Spec.rstd (img x) b ch := by
  pointwise [val_main_v11, val_main_v10, val_main_v9, val_main_v8, val_main_v7, val_main_v6, val_main_v5, val_main_cst_1, mean_at, var_at]
  exact Spec.normal (X := img x) hf b r w ch

/-- The border repeated. -/
theorem pad_at (b : Fin 2) (p q : Fin 514) (ch : Fin 128) :
    val_main_v17 (F := Ideal) x (ix4 b p q ch) = val_main_v11 (F := Ideal) x (ix4 b (Spec.cl p.val) (Spec.cl q.val) ch) := by
  pointwise [val_main_v17, val_main_v16, val_main_v15, val_main_v14, val_main_v13, val_main_v12]
  have hp := p.isLt
  have hq := q.isLt
  have e : ∀ {a d a' d' : Fin 512}, a.val = a'.val → d.val = d'.val →
      val_main_v11 (F := Ideal) x (ix4 b a d ch) = val_main_v11 (F := Ideal) x (ix4 b a' d' ch) := fun h h' => by rw [Fin.ext h, Fin.ext h']
  split <;> rename_i h1
  · split <;> rename_i h2
    · exact e (by show p.val = min (p.val - 1) 511; omega) (by show q.val = min (q.val - 1) 511; omega)
    · split <;> rename_i h3
      · exact e (by show p.val - 1 = min (p.val - 1) 511; omega) (by show q.val = min (q.val - 1) 511; omega)
      · exact e (by show 511 + (p.val - 1 - 512) = min (p.val - 1) 511; omega) (by show q.val = min (q.val - 1) 511; omega)
  · split <;> rename_i h4
    · split <;> rename_i h2
      · exact e (by show p.val = min (p.val - 1) 511; omega) (by show q.val - 1 = min (q.val - 1) 511; omega)
      · split <;> rename_i h3
        · exact e (by show p.val - 1 = min (p.val - 1) 511; omega) (by show q.val - 1 = min (q.val - 1) 511; omega)
        · exact e (by show 511 + (p.val - 1 - 512) = min (p.val - 1) 511; omega) (by show q.val - 1 = min (q.val - 1) 511; omega)
    · split <;> rename_i h2
      · exact e (by show p.val = min (p.val - 1) 511; omega) (by show 511 + (q.val - 1 - 512) = min (q.val - 1) 511; omega)
      · split <;> rename_i h3
        · exact e (by show p.val - 1 = min (p.val - 1) 511; omega) (by show 511 + (q.val - 1 - 512) = min (q.val - 1) 511; omega)
        · exact e (by show 511 + (p.val - 1 - 512) = min (p.val - 1) 511; omega) (by show 511 + (q.val - 1 - 512) = min (q.val - 1) 511; omega)

/-- The three by three sum. -/
theorem conv_at (H : Fin 2 → ℕ → ℕ → Fin 128 → EReal)
    (hH : ∀ (b : Fin 2) (p q : Fin 514) (ch : Fin 128), val_main_v17 (F := Ideal) x (ix4 b p q ch) = H b p.val q.val ch)
    (b : Fin 2) (r w : Fin 512) (ch : Fin 128) :
    val_main_v81 (F := Ideal) x k (ix4 b r w ch) = Spec.conv (fun p q => H b p q ch) (fun i j => k (ix3 i j ch)) r.val w.val := by
  pointwise [val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_cst_2, hH]
  simp only [Spec.conv, Nat.add_comm 1, Nat.add_comm 2]

/-- The result. -/
theorem out_at (f : Fin 2 → Fin 512 → Fin 512 → Fin 128 → ℝ) (hf : ∀ b r w ch, x (ix4 b r w ch) = (f b r w ch : EReal))
    (b : Fin 2) (r w : Fin 512) (ch : Fin 128) :
    val_main_v90 (F := Ideal) x k wp (ix4 b r w ch)
      = Spec.out (img x) (fun i j ch => k (ix3 i j ch)) (fun i j => wp (ix2 i j)) b r.val w.val ch := by
  have hH : ∀ (b : Fin 2) (p q : Fin 514) (ch : Fin 128), val_main_v17 (F := Ideal) x (ix4 b p q ch) = Spec.hat (img x) b p.val q.val ch :=
    fun b p q ch => by rw [pad_at, hat_at x f hf]; rfl
  have hC := conv_at x k (Spec.hat (img x)) hH
  pointwise [val_main_v90, val_main_v89, val_main_v88, val_main_v87, val_main_v86, val_main_v85, val_main_v84, val_main_v83, val_main_v82, val_main_cst_3,
    dot_S524288x128_S128x128_S524288x128_1_0_0_1_n_n, hC]
  simp only [Spec.act_div]
  have e : ∀ r : Fin 512, Spec.cl (r.val + 1) = r := fun r => Fin.ext (by show min (r.val + 1 - 1) 511 = r.val; have := r.isLt; omega)
  unfold Spec.out Spec.px
  rw [e, e]

end Cert.ReferenceIdeal.Read

end
-- ==== Proof.Equal.lean ====
/-
  The equation: from an image of real numbers cut over the devices, every device ends with its part of what the reference
  computes of the whole image.
-/
module

public import proofs.«01_k».proof.Proof.Result
public import proofs.«01_k».proof.Proof.Reference
public import proofs.«01_k».proof.Proof.Finite
public import Idealize.ShloMosaic.Lib.Layout

@[expose] public section

noncomputable section

namespace Cert.Equal

open Idealize.ShloMosaic Idealize.ShloMosaic.TcCoe Idealize.SL.Sem
open Cert.KernelIdeal (nD τ sig)
open Cert.KernelIdeal.Run

abbrev Part : Shape := ⟨4, ![2, 256, 256, 128]⟩
abbrev Whole : Shape := ⟨4, ![2, 512, 512, 128]⟩

/-- Device `c`'s part of an array cut over the mesh. -/
abbrev part (c : Dev nD) (v : Whole.Idx → EReal) : Part.Idx → EReal :=
  Layout.blockN Part Whole (Layout.meshBlock [2, 2] ![[], [0], [1], []] c) v

theorem lin0 : ∀ c : Dev nD, Layout.meshLin [2, 2] c.val [0] = c.val / 2 := by decide
theorem lin1 : ∀ c : Dev nD, Layout.meshLin [2, 2] c.val [1] = c.val % 2 := by decide

theorem part_at (c : Dev nD) (v : Whole.Idx → EReal) (b : Fin 2) (r w : Fin 256) (ch : Fin 128) :
    part c v (ix4 b r w ch) = v (ix4 b ⟨256 * (c.val / 2) + r.val, by have := div_lt c; omega⟩
      ⟨256 * (c.val % 2) + w.val, by have := mod_lt c; omega⟩ ch) := by
  refine congrArg v (funext fun a => Fin.ext ?_)
  match a with
  | ⟨0, _⟩ => show 0 * 2 + b.val = b.val; omega
  | ⟨1, _⟩ => show Layout.meshLin [2, 2] c.val [0] * 256 + r.val = 256 * (c.val / 2) + r.val; rw [lin0]; omega
  | ⟨2, _⟩ => show Layout.meshLin [2, 2] c.val [1] * 256 + w.val = 256 * (c.val % 2) + w.val; rw [lin1]; omega
  | ⟨3, _⟩ => show 0 * 128 + ch.val = ch.val; omega

variable (m : (ℓ : Loc nD τ sig) → Buf (Elt Ideal) ℓ) (x : FVec Ideal Whole .f32)
  (k : FVec Ideal ⟨3, ![3, 3, 128]⟩ .f32) (wp : FVec Ideal ⟨2, ![128, 128]⟩ .f32)

/-- The whole image is real when every part is: every pixel is in some device's part. -/
theorem real_whole (h : ∀ c, argX m c = part c x) (hr : ∀ c i, ∃ y : ℝ, argX m c i = (y : EReal)) (b : Fin 2) (r w : Fin 512) (ch : Fin 128) :
    ∃ y : ℝ, x (ix4 b r w ch) = (y : EReal) := by
  have h1 : r.val / 256 < 2 := by omega
  have h2 : w.val / 256 < 2 := by omega
  let c : Dev nD := ⟨2 * (r.val / 256) + w.val / 256, by show _ < 4; omega⟩
  obtain ⟨y, hy⟩ := hr c (ix4 b ⟨r.val % 256, by omega⟩ ⟨w.val % 256, by omega⟩ ch)
  refine ⟨y, hy ▸ ?_⟩
  rw [h, part_at]
  refine congrArg x ((ix4_inj _ _ _ _ _ _ _ _).mpr ⟨rfl, Fin.ext ?_, Fin.ext ?_, rfl⟩)
  · show r.val = 256 * ((2 * (r.val / 256) + w.val / 256) / 2) + r.val % 256; omega
  · show w.val = 256 * ((2 * (r.val / 256) + w.val / 256) % 2) + w.val % 256; omega

theorem holds (h : ∀ c, argX m c = part c x) : Holds m (Cert.ReferenceIdeal.Read.img x) := fun c b r w ch => by
  have h1 := div_lt c
  have h2 := mod_lt c
  rw [h, part_at]
  refine congrArg x ((ix4_inj _ _ _ _ _ _ _ _).mpr ⟨rfl, Fin.ext ?_, Fin.ext ?_, rfl⟩)
  · show 256 * (c.val / 2) + r.val = min (256 * (c.val / 2) + r.val + 1 - 1) 511; omega
  · show 256 * (c.val % 2) + w.val = min (256 * (c.val % 2) + w.val + 1 - 1) 511; omega

/-- What a device ends with is its part of the reference's result. -/
theorem result (h : ∀ c, argX m c = part c x) (hr : ∀ c i, ∃ y : ℝ, argX m c i = (y : EReal)) (c : Dev nD)
    (hk : argK m c = k) (hw : argW m c = wp) :
    (dat0 (F := Ideal) m c).arrAt 4 Cert.KernelIdeal.cfg0.N = part c (Cert.ReferenceIdeal.Read.val_main_v90 (F := Ideal) x k wp) := by
  choose f hf using real_whole m x h hr
  rw [result_at (holds m x h) (fun i j ch => k (ix3 i j ch)) (fun i j => wp (ix2 i j)) c (fun i j ch => by rw [hk]) (fun i j => by rw [hw])]
  funext i
  obtain ⟨b, r, w, ch, rfl⟩ : ∃ (b : Fin 2) (r w : Fin 256) (ch : Fin 128), i = (ix4 b r w ch : Part.Idx) :=
    ⟨i 0, i 1, i 2, i 3, eq_ix4 (n0 := 2) (n1 := 256) (n2 := 256) (n3 := 128) i⟩
  rw [part_at, Cert.ReferenceIdeal.Read.out_at x k wp f hf]
  rfl

end Cert.Equal

end
-- ==== Proof.lean ====
/-
  The claims of this certificate, proved: the kernel's run is `Proof/Whole.lean`, stated over any float values and read
  here at the machine's and at the exact ones. That the results are the reference's is `Proof/Equal.lean`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Whole
public import proofs.«01_k».proof.Proof.Same
public import proofs.«01_k».proof.Proof.Finite
public import proofs.«01_k».proof.Proof.Equal

@[expose] public section

noncomputable section

namespace Cert.Proof

open Idealize.ShloMosaic Idealize.SL.Sem

theorem frame_ideal : Cert.quiescent_KernelIdeal := fun m ρ _ => Cert.KernelIdeal.Run.frame_any (F := Ideal) m ρ

/-- The kernel as printed is the same text at the machine's float values. -/
theorem frame_kernel : Cert.quiescent_Kernel := fun m ρ _ => by
  rw [Cert.Same.table, Cert.Same.main]
  exact Cert.KernelIdeal.Run.frame_any (F := Bits) m ρ

/-- The reference has no semaphore. -/
theorem no_sem : ∀ _ : SemLoc Cert.ReferenceIdeal.sig, False := by decide

theorem frame_reference : Cert.quiescent_ReferenceIdeal := fun m ρ _ =>
  (θ_run Cert.ReferenceIdeal.defs _ _).mono (fun _ h => ⟨fun c => (h c).2, funext fun g => (no_sem g.2).elim⟩)
    (Cert.ReferenceIdeal.Value.run (F := Ideal) m ρ)

/-- Every device ends with its part of what the reference computes of the whole image. -/
theorem algebraic : Cert.algebraic_KernelIdeal_ReferenceIdeal_pre_finite_x_KernelIdeal
    (hPre_finite_x_KernelIdeal := Cert.Finite.facts_block) := fun m g m' g' hp ha => by
  refine ⟨Cert.ReferenceIdeal.Read.val_main_v90 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r h c => ?_) (Cert.KernelIdeal.Run.run_main (F := Ideal) m g)
    obtain ⟨h0, h1, h2, h9⟩ := h.1 c
    refine ⟨h9.trans ?_, h0, h1, h2⟩
    exact Cert.Equal.result m _ _ _ (fun d => (ha d).1) (fun d => Cert.Finite.real_of_pre _ _ _ (hp d)) c (ha c).2.1 (ha c).2.2
  · refine (θ_run Cert.ReferenceIdeal.defs _ _).mono (fun r h => ?_) (Cert.ReferenceIdeal.Value.run (F := Ideal) m' g')
    obtain ⟨h90, h0, h1, h2⟩ := h 0
    exact ⟨h90.trans (Cert.ReferenceIdeal.Read.val_main_v90_eq _), h0, h1, h2⟩

theorem claim : Cert.Claim := ⟨Cert.Kernel.Gen.facts, Cert.KernelIdeal.Gen.facts, Cert.ReferenceIdeal.Gen.facts,
  Cert.Finite.facts_block, Cert.Finite.facts_whole, frame_kernel, frame_ideal, fun m ρ _ => frame_ideal m ρ trivial,
  frame_reference, fun m ρ _ => frame_reference m ρ trivial, trivial, algebraic⟩

end Cert.Proof

end
